-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_v58) = v1 c
          ∧ r.2.mem ((c.tc : Thread Cert.Reference5Ideal.nD Cert.Reference5Ideal.τ).loc Cert.Reference5Ideal.main_v61) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v10)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v10) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v45) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S48x8192x128 : Shape := ⟨3, ![48, 8192, 128]⟩
abbrev S8192x128 : Shape := ⟨2, ![8192, 128]⟩
abbrev S1x2x64 : Shape := ⟨3, ![1, 2, 64]⟩
abbrev S2x8x128x512 : Shape := ⟨4, ![2, 8, 128, 512]⟩
abbrev S2x64 : Shape := ⟨2, ![2, 64]⟩
abbrev S2x128x4096 : Shape := ⟨3, ![2, 128, 4096]⟩
abbrev S_ : Shape := ⟨0, ![]⟩
abbrev S1x128 : Shape := ⟨2, ![1, 128]⟩
abbrev S1x128x4096 : Shape := ⟨3, ![1, 128, 4096]⟩
abbrev S128x4096 : Shape := ⟨2, ![128, 4096]⟩
abbrev S8x8192x512 : Shape := ⟨3, ![8, 8192, 512]⟩
abbrev S32x128x128 : Shape := ⟨3, ![32, 128, 128]⟩
abbrev S8x128x128 : Shape := ⟨3, ![8, 128, 128]⟩
abbrev S128x128 : Shape := ⟨2, ![128, 128]⟩
abbrev S1x8x128x512 : Shape := ⟨4, ![1, 8, 128, 512]⟩
abbrev S8x128x512 : Shape := ⟨3, ![8, 128, 512]⟩
abbrev S8x128 : Shape := ⟨2, ![8, 128]⟩
abbrev S1x128x128 : Shape := ⟨3, ![1, 128, 128]⟩
abbrev S128x1 : Shape := ⟨2, ![128, 1]⟩
abbrev S256x128 : Shape := ⟨2, ![256, 128]⟩
abbrev S128x256 : Shape := ⟨2, ![128, 256]⟩

abbrev nBuf : Space → Nat
  | .hbm => 41
  | .vmem => 34
  | .smem => 0
  | _ => 0

abbrev bufTy : (tb : Table) → Fin (tcTables nBuf tb) → BufTy
  | .hbm, ⟨0, _⟩ => ⟨S48x8192x128, .bf16⟩
  | .hbm, ⟨1, _⟩ => ⟨S8192x128, .f32⟩
  | .hbm, ⟨2, _⟩ => ⟨S1x2x64, .f32⟩
  | .hbm, ⟨3, _⟩ => ⟨S1x2x64, .f32⟩
  | .hbm, ⟨4, _⟩ => ⟨S2x8x128x512, .f32⟩
  | .hbm, ⟨5, _⟩ => ⟨S2x8x128x512, .f32⟩
  | .hbm, ⟨6, _⟩ => ⟨S2x64, .f32⟩
  | .hbm, ⟨7, _⟩ => ⟨S2x64, .f32⟩
  | .hbm, ⟨8, _⟩ => ⟨S2x128x4096, .i32⟩
  | .hbm, ⟨9, _⟩ => ⟨S2x128x4096, .i32⟩
  | .hbm, ⟨10, _⟩ => ⟨S_, .i32⟩
  | .hbm, ⟨11, _⟩ => ⟨S2x128x4096, .i32⟩
  | .hbm, ⟨12, _⟩ => ⟨S2x128x4096, .i32⟩
  | .hbm, ⟨13, _⟩ => ⟨S2x128x4096, .i32⟩
  | .hbm, ⟨14, _⟩ => ⟨S_, .i32⟩
  | .hbm, ⟨15, _⟩ => ⟨S2x128x4096, .i32⟩
  | .hbm, ⟨16, _⟩ => ⟨S2x128x4096, .i32⟩
  | .hbm, ⟨17, _⟩ => ⟨S2x128x4096, .i32⟩
  | .hbm, ⟨18, _⟩ => ⟨S2x128x4096, .i1⟩
  | .hbm, ⟨19, _⟩ => ⟨S2x128x4096, .i32⟩
  | .hbm, ⟨20, _⟩ => ⟨S_, .i32⟩
  | .hbm, ⟨21, _⟩ => ⟨S2x128x4096, .i32⟩
  | .hbm, ⟨22, _⟩ => ⟨S2x128x4096, .i32⟩
  | .hbm, ⟨23, _⟩ => ⟨S2x128x4096, .i1⟩
  | .hbm, ⟨24, _⟩ => ⟨S2x128x4096, .i1⟩
  | .hbm, ⟨25, _⟩ => ⟨S_, .f32⟩
  | .hbm, ⟨26, _⟩ => ⟨S_, .f32⟩
  | .hbm, ⟨27, _⟩ => ⟨S2x128x4096, .f32⟩
  | .hbm, ⟨28, _⟩ => ⟨S2x128x4096, .f32⟩
  | .hbm, ⟨29, _⟩ => ⟨S2x128x4096, .f32⟩
  | .hbm, ⟨30, _⟩ => ⟨S2x128x4096, .bf16⟩
  | .hbm, ⟨31, _⟩ => ⟨S1x128, .f32⟩
  | .hbm, ⟨32, _⟩ => ⟨S1x128, .f32⟩
  | .hbm, ⟨33, _⟩ => ⟨S1x128x4096, .bf16⟩
  | .hbm, ⟨34, _⟩ => ⟨S128x4096, .bf16⟩
  | .hbm, ⟨35, _⟩ => ⟨S1x128x4096, .bf16⟩
  | .hbm, ⟨36, _⟩ => ⟨S128x4096, .bf16⟩
  | .hbm, ⟨37, _⟩ => ⟨S8x8192x512, .bf16⟩
  | .hbm, ⟨38, _⟩ => ⟨S8x8192x512, .bf16⟩
  | .hbm, ⟨39, _⟩ => ⟨S2x8x128x512, .f32⟩
  | .hbm, ⟨40, _⟩ => ⟨S2x8x128x512, .f32⟩
  | .local _ .vmem, ⟨0, _⟩ => ⟨S32x128x128, .bf16⟩
  | .local _ .vmem, ⟨1, _⟩ => ⟨S32x128x128, .bf16⟩
  | .local _ .vmem, ⟨2, _⟩ => ⟨S8x128x128, .bf16⟩
  | .local _ .vmem, ⟨3, _⟩ => ⟨S8x128x128, .bf16⟩
  | .local _ .vmem, ⟨4, _⟩ => ⟨S8x128x128, .bf16⟩
  | .local _ .vmem, ⟨5, _⟩ => ⟨S8x128x128, .bf16⟩
  | .local _ .vmem, ⟨6, _⟩ => ⟨S128x128, .f32⟩
  | .local _ .vmem, ⟨7, _⟩ => ⟨S128x128, .f32⟩
  | .local _ .vmem, ⟨8, _⟩ => ⟨S32x128x128, .bf16⟩
  | .local _ .vmem, ⟨9, _⟩ => ⟨S32x128x128, .bf16⟩
  | .local _ .vmem, ⟨10, _⟩ => ⟨S8x128x128, .bf16⟩
  | .local _ .vmem, ⟨11, _⟩ => ⟨S8x128x128, .bf16⟩
  | .local _ .vmem, ⟨12, _⟩ => ⟨S8x128x128, .bf16⟩
  | .local _ .vmem, ⟨13, _⟩ => ⟨S8x128x128, .bf16⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S1x128, .f32⟩
  | .local _ .vmem, ⟨18, _⟩ => ⟨S128x4096, .bf16⟩
  | .local _ .vmem, ⟨19, _⟩ => ⟨S128x4096, .bf16⟩
  | .local _ .vmem, ⟨20, _⟩ => ⟨S1x8x128x512, .f32⟩
  | .local _ .vmem, ⟨21, _⟩ => ⟨S1x8x128x512, .f32⟩
  | .local _ .vmem, ⟨22, _⟩ => ⟨S1x8x128x512, .f32⟩
  | .local _ .vmem, ⟨23, _⟩ => ⟨S1x8x128x512, .f32⟩
  | .local _ .vmem, ⟨24, _⟩ => ⟨S8x128x512, .bf16⟩
  | .local _ .vmem, ⟨25, _⟩ => ⟨S8x128x512, .bf16⟩
  | .local _ .vmem, ⟨26, _⟩ => ⟨S8x128x512, .bf16⟩
  | .local _ .vmem, ⟨27, _⟩ => ⟨S8x128x512, .bf16⟩
  | .local _ .vmem, ⟨28, _⟩ => ⟨S1x8x128x512, .f32⟩
  | .local _ .vmem, ⟨29, _⟩ => ⟨S1x8x128x512, .f32⟩
  | .local _ .vmem, ⟨30, _⟩ => ⟨S1x8x128x512, .f32⟩
  | .local _ .vmem, ⟨31, _⟩ => ⟨S1x8x128x512, .f32⟩
  | .local _ .vmem, ⟨32, _⟩ => ⟨S8x128x512, .f32⟩
  | .local _ .vmem, ⟨33, _⟩ => ⟨S8x128x512, .f32⟩
  | _, _ => ⟨S48x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v4287 : BitVec 1 := Scalar.cmpi .eq arg1 c31_i32
  let v4288 : BitVec 32 := Scalar.extui v4287
  let c0_i32_1680 : BitVec 32 := 0#32
  let v4289 : BitVec 1 := Scalar.cmpi .ne v4288 c0_i32_1680
  v4289

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  let c0_i32_0 : BitVec 32 := 0#32
  ![c4_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  let c0_i32_0 : BitVec 32 := 0#32
  ![c5_i32.toNat, v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c4_i32 : BitVec 32 := 4#32
  let c0_i32 : BitVec 32 := 0#32
  let c0_i32_0 : BitVec 32 := 0#32
  ![c4_i32.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c5_i32 : BitVec 32 := 5#32
  let c0_i32 : BitVec 32 := 0#32
  let c0_i32_0 : BitVec 32 := 0#32
  ![c5_i32.toNat, v2.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.subi c31_i32 arg1
  let v2 : BitVec 32 := Scalar.addi v0 v1
  let c0_i32 : BitVec 32 := 0#32
  let c0_i32_0 : BitVec 32 := 0#32
  let c0_i32_1 : BitVec 32 := 0#32
  ![c0_i32.toNat, v2.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S8x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x8x128x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== KernelIdeal.lean ====
variable {F : FTy → Type} [FloatOps F] [Named F]
def κ : String → Option EReal := fun
  | "mask" => some ⊥
  | _ => none
-- ==== Kernel2.lean ====
abbrev S8192x2048 : Shape := ⟨2, ![8192, 2048]⟩
abbrev S1x2048x20608 : Shape := ⟨3, ![1, 2048, 20608]⟩
abbrev S2048x20608 : Shape := ⟨2, ![2048, 20608]⟩
abbrev S2048x6144 : Shape := ⟨2, ![2048, 6144]⟩
abbrev S2048x8192 : Shape := ⟨2, ![2048, 8192]⟩
abbrev S2048x14336 : Shape := ⟨2, ![2048, 14336]⟩
abbrev S112x8192x128 : Shape := ⟨3, ![112, 8192, 128]⟩
abbrev S1024x2048 : Shape := ⟨2, ![1024, 2048]⟩
abbrev S2048x2048 : Shape := ⟨2, ![2048, 2048]⟩
abbrev S16x1024x128 : Shape := ⟨3, ![16, 1024, 128]⟩
abbrev S1024x128 : Shape := ⟨2, ![1024, 128]⟩
abbrev S1x1024x128 : Shape := ⟨3, ![1, 1024, 128]⟩

abbrev nBuf : Space → Nat
  | .hbm => 8
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x20608, .f32⟩
  | .hbm, ⟨2, _⟩ => ⟨S2048x20608, .f32⟩
  | .hbm, ⟨3, _⟩ => ⟨S2048x6144, .f32⟩
  | .hbm, ⟨4, _⟩ => ⟨S2048x8192, .f32⟩
  | .hbm, ⟨5, _⟩ => ⟨S2048x14336, .f32⟩
  | .hbm, ⟨6, _⟩ => ⟨S2048x14336, .bf16⟩
  | .hbm, ⟨7, _⟩ => ⟨S112x8192x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S16x1024x128, .bf16⟩
  | .local _ .vmem, ⟨5, _⟩ => ⟨S16x1024x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x2048 : Shape := ⟨2, ![8192, 2048]⟩
abbrev S1x2048x20608 : Shape := ⟨3, ![1, 2048, 20608]⟩
abbrev S2x4096x2048 : Shape := ⟨3, ![2, 4096, 2048]⟩
abbrev S2048x20608 : Shape := ⟨2, ![2048, 20608]⟩
abbrev S2x4096x20608 : Shape := ⟨3, ![2, 4096, 20608]⟩
abbrev S2x4096x6144 : Shape := ⟨3, ![2, 4096, 6144]⟩
abbrev S2x4096x8192 : Shape := ⟨3, ![2, 4096, 8192]⟩
abbrev S2x4096x14336 : Shape := ⟨3, ![2, 4096, 14336]⟩
abbrev S8192x112x128 : Shape := ⟨3, ![8192, 112, 128]⟩
abbrev S112x8192x128 : Shape := ⟨3, ![112, 8192, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x20608, .f32⟩
  | .hbm, ⟨2, _⟩ => ⟨S8192x2048, .f32⟩
  | .hbm, ⟨3, _⟩ => ⟨S2x4096x2048, .f32⟩
  | .hbm, ⟨4, _⟩ => ⟨S2048x20608, .f32⟩
  | .hbm, ⟨5, _⟩ => ⟨S2x4096x20608, .f32⟩
  | .hbm, ⟨6, _⟩ => ⟨S2x4096x6144, .f32⟩
  | .hbm, ⟨7, _⟩ => ⟨S2x4096x8192, .f32⟩
  | .hbm, ⟨8, _⟩ => ⟨S2x4096x14336, .f32⟩
  | .hbm, ⟨9, _⟩ => ⟨S8192x112x128, .f32⟩
  | .hbm, ⟨10, _⟩ => ⟨S112x8192x128, .f32⟩
  | .hbm, ⟨11, _⟩ => ⟨S112x8192x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel3.lean ====
abbrev S8192x2048 : Shape := ⟨2, ![8192, 2048]⟩
abbrev S1x2048x20608 : Shape := ⟨3, ![1, 2048, 20608]⟩
abbrev S2048x20608 : Shape := ⟨2, ![2048, 20608]⟩
abbrev S2048x6144 : Shape := ⟨2, ![2048, 6144]⟩
abbrev S48x8192x128 : Shape := ⟨3, ![48, 8192, 128]⟩
abbrev S1024x2048 : Shape := ⟨2, ![1024, 2048]⟩
abbrev S2048x2048 : Shape := ⟨2, ![2048, 2048]⟩
abbrev S16x1024x128 : Shape := ⟨3, ![16, 1024, 128]⟩
abbrev S1024x128 : Shape := ⟨2, ![1024, 128]⟩
abbrev S1x1024x128 : Shape := ⟨3, ![1, 1024, 128]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x20608, .f32⟩
  | .hbm, ⟨2, _⟩ => ⟨S2048x20608, .f32⟩
  | .hbm, ⟨3, _⟩ => ⟨S2048x6144, .f32⟩
  | .hbm, ⟨4, _⟩ => ⟨S2048x6144, .bf16⟩
  | .hbm, ⟨5, _⟩ => ⟨S48x8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S16x1024x128, .f32⟩
  | .local _ .vmem, ⟨5, _⟩ => ⟨S16x1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x2048 : Shape := ⟨2, ![8192, 2048]⟩
abbrev S1x2048x20608 : Shape := ⟨3, ![1, 2048, 20608]⟩
abbrev S2x4096x2048 : Shape := ⟨3, ![2, 4096, 2048]⟩
abbrev S2048x20608 : Shape := ⟨2, ![2048, 20608]⟩
abbrev S2x4096x20608 : Shape := ⟨3, ![2, 4096, 20608]⟩
abbrev S2x4096x6144 : Shape := ⟨3, ![2, 4096, 6144]⟩
abbrev S8192x48x128 : Shape := ⟨3, ![8192, 48, 128]⟩
abbrev S48x8192x128 : Shape := ⟨3, ![48, 8192, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x20608, .f32⟩
  | .hbm, ⟨2, _⟩ => ⟨S8192x2048, .f32⟩
  | .hbm, ⟨3, _⟩ => ⟨S2x4096x2048, .f32⟩
  | .hbm, ⟨4, _⟩ => ⟨S2048x20608, .f32⟩
  | .hbm, ⟨5, _⟩ => ⟨S2x4096x20608, .f32⟩
  | .hbm, ⟨6, _⟩ => ⟨S2x4096x6144, .f32⟩
  | .hbm, ⟨7, _⟩ => ⟨S8192x48x128, .f32⟩
  | .hbm, ⟨8, _⟩ => ⟨S48x8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel4.lean ====
abbrev S16x8192x128 : Shape := ⟨3, ![16, 8192, 128]⟩
abbrev S8192x4096 : Shape := ⟨2, ![8192, 4096]⟩
abbrev S1x2048x2048 : Shape := ⟨3, ![1, 2048, 2048]⟩
abbrev S1x4096x2048 : Shape := ⟨3, ![1, 4096, 2048]⟩
abbrev S112x8192x128 : Shape := ⟨3, ![112, 8192, 128]⟩
abbrev S2048x2048 : Shape := ⟨2, ![2048, 2048]⟩
abbrev S4096x2048 : Shape := ⟨2, ![4096, 2048]⟩
abbrev S8192x2048 : Shape := ⟨2, ![8192, 2048]⟩
abbrev S16x512x128 : Shape := ⟨3, ![16, 512, 128]⟩
abbrev S512x4096 : Shape := ⟨2, ![512, 4096]⟩
abbrev S2048x1024 : Shape := ⟨2, ![2048, 1024]⟩
abbrev S4096x1024 : Shape := ⟨2, ![4096, 1024]⟩
abbrev S8x512x128 : Shape := ⟨3, ![8, 512, 128]⟩
abbrev S512x1024 : Shape := ⟨2, ![512, 1024]⟩
abbrev S1x512x128 : Shape := ⟨3, ![1, 512, 128]⟩
abbrev S512x128 : Shape := ⟨2, ![512, 128]⟩
abbrev S512x2048 : Shape := ⟨2, ![512, 2048]⟩

abbrev nBuf : Space → Nat
  | .hbm => 10
  | .vmem => 14
  | .smem => 0
  | _ => 0

abbrev bufTy : (tb : Table) → Fin (tcTables nBuf tb) → BufTy
  | .hbm, ⟨0, _⟩ => ⟨S16x8192x128, .f32⟩
  | .hbm, ⟨1, _⟩ => ⟨S8192x4096, .bf16⟩
  | .hbm, ⟨2, _⟩ => ⟨S1x2048x2048, .f32⟩
  | .hbm, ⟨3, _⟩ => ⟨S1x4096x2048, .f32⟩
  | .hbm, ⟨4, _⟩ => ⟨S112x8192x128, .bf16⟩
  | .hbm, ⟨5, _⟩ => ⟨S2048x2048, .f32⟩
  | .hbm, ⟨6, _⟩ => ⟨S2048x2048, .bf16⟩
  | .hbm, ⟨7, _⟩ => ⟨S4096x2048, .f32⟩
  | .hbm, ⟨8, _⟩ => ⟨S4096x2048, .bf16⟩
  | .hbm, ⟨9, _⟩ => ⟨S8192x2048, .bf16⟩
  | .local _ .vmem, ⟨0, _⟩ => ⟨S16x512x128, .f32⟩
  | .local _ .vmem, ⟨1, _⟩ => ⟨S16x512x128, .f32⟩
  | .local _ .vmem, ⟨2, _⟩ => ⟨S512x4096, .bf16⟩
  | .local _ .vmem, ⟨3, _⟩ => ⟨S512x4096, .bf16⟩
  | .local _ .vmem, ⟨4, _⟩ => ⟨S2048x1024, .bf16⟩
  | .local _ .vmem, ⟨5, _⟩ => ⟨S2048x1024, .bf16⟩
  | .local _ .vmem, ⟨6, _⟩ => ⟨S4096x1024, .bf16⟩
  | .local _ .vmem, ⟨7, _⟩ => ⟨S4096x1024, .bf16⟩
  | .local _ .vmem, ⟨8, _⟩ => ⟨S8x512x128, .bf16⟩
  | .local _ .vmem, ⟨9, _⟩ => ⟨S8x512x128, .bf16⟩
  | .local _ .vmem, ⟨10, _⟩ => ⟨S8x512x128, .bf16⟩
  | .local _ .vmem, ⟨11, _⟩ => ⟨S8x512x128, .bf16⟩
  | .local _ .vmem, ⟨12, _⟩ => ⟨S512x1024, .bf16⟩
  | .local _ .vmem, ⟨13, _⟩ => ⟨S512x1024, .bf16⟩
  | _, _ => ⟨S16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![v0.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![v0.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S16x8192x128 : Shape := ⟨3, ![16, 8192, 128]⟩
abbrev S8192x4096 : Shape := ⟨2, ![8192, 4096]⟩
abbrev S1x2048x2048 : Shape := ⟨3, ![1, 2048, 2048]⟩
abbrev S1x4096x2048 : Shape := ⟨3, ![1, 4096, 2048]⟩
abbrev S112x8192x128 : Shape := ⟨3, ![112, 8192, 128]⟩
abbrev S8192x112x128 : Shape := ⟨3, ![8192, 112, 128]⟩
abbrev S8192x14336 : Shape := ⟨2, ![8192, 14336]⟩
abbrev S_ : Shape := ⟨0, ![]⟩
abbrev S8192x2048 : Shape := ⟨2, ![8192, 2048]⟩
abbrev S8192x16x128 : Shape := ⟨3, ![8192, 16, 128]⟩
abbrev S2048x2048 : Shape := ⟨2, ![2048, 2048]⟩
abbrev S4096x2048 : Shape := ⟨2, ![4096, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16x8192x128, .f32⟩
  | .hbm, ⟨1, _⟩ => ⟨S8192x4096, .bf16⟩
  | .hbm, ⟨2, _⟩ => ⟨S1x2048x2048, .f32⟩
  | .hbm, ⟨3, _⟩ => ⟨S1x4096x2048, .f32⟩
  | .hbm, ⟨4, _⟩ => ⟨S112x8192x128, .bf16⟩
  | .hbm, ⟨5, _⟩ => ⟨S112x8192x128, .f32⟩
  | .hbm, ⟨6, _⟩ => ⟨S8192x112x128, .f32⟩
  | .hbm, ⟨7, _⟩ => ⟨S8192x14336, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x2048, .f32⟩
  | .hbm, ⟨18, _⟩ => ⟨S8192x16x128, .f32⟩
  | .hbm, ⟨19, _⟩ => ⟨S8192x2048, .f32⟩
  | .hbm, ⟨20, _⟩ => ⟨S2048x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x4096, .f32⟩
  | .hbm, ⟨25, _⟩ => ⟨S4096x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .bf16⟩
  | _, _ => ⟨S16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel5.lean ====
abbrev S2x4096x2048 : Shape := ⟨3, ![2, 4096, 2048]⟩
abbrev S1x2048x2048 : Shape := ⟨3, ![1, 2048, 2048]⟩
abbrev S2x1x2048 : Shape := ⟨3, ![2, 1, 2048]⟩
abbrev S1x2048 : Shape := ⟨2, ![1, 2048]⟩
abbrev S2048x2048 : Shape := ⟨2, ![2048, 2048]⟩
abbrev S2048 : Shape := ⟨1, ![2048]⟩
abbrev S2048x8192 : Shape := ⟨2, ![2048, 8192]⟩
abbrev S1x512x2048 : Shape := ⟨3, ![1, 512, 2048]⟩
abbrev S1x1x2048 : Shape := ⟨3, ![1, 1, 2048]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S2x4096x2048, .bf16⟩
  | .hbm, ⟨1, _⟩ => ⟨S1x2048x2048, .f32⟩
  | .hbm, ⟨2, _⟩ => ⟨S2x4096x2048, .f32⟩
  | .hbm, ⟨3, _⟩ => ⟨S2x1x2048, .f32⟩
  | .hbm, ⟨4, _⟩ => ⟨S1x2048, .f32⟩
  | .hbm, ⟨5, _⟩ => ⟨S1x2048, .f32⟩
  | .hbm, ⟨6, _⟩ => ⟨S2x1x2048, .f32⟩
  | .hbm, ⟨7, _⟩ => ⟨S2x1x2048, .f32⟩
  | .hbm, ⟨8, _⟩ => ⟨S2048x2048, .f32⟩
  | .hbm, ⟨9, _⟩ => ⟨S2048x2048, .bf16⟩
  | .hbm, ⟨10, _⟩ => ⟨S2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S2x4096x2048, .f32⟩
  | .hbm, ⟨15, _⟩ => ⟨S2x4096x2048, .bf16⟩
  | .hbm, ⟨16, _⟩ => ⟨S2048x8192, .bf16⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x512x2048, .f32⟩
  | .local _ .vmem, ⟨14, _⟩ => ⟨S1x512x2048, .f32⟩
  | .local _ .vmem, ⟨15, _⟩ => ⟨S1x512x2048, .bf16⟩
  | .local _ .vmem, ⟨16, _⟩ => ⟨S1x512x2048, .bf16⟩
  | .local _ .vmem, ⟨17, _⟩ => ⟨S2048x512, .bf16⟩
  | .local _ .vmem, ⟨18, _⟩ => ⟨S2048x512, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S2x4096x2048 : Shape := ⟨3, ![2, 4096, 2048]⟩
abbrev S1x2048x2048 : Shape := ⟨3, ![1, 2048, 2048]⟩
abbrev S2x1x2048 : Shape := ⟨3, ![2, 1, 2048]⟩
abbrev S1x2048 : Shape := ⟨2, ![1, 2048]⟩
abbrev S2048x2048 : Shape := ⟨2, ![2048, 2048]⟩
abbrev S_ : Shape := ⟨0, ![]⟩
abbrev S2x4096 : Shape := ⟨2, ![2, 4096]⟩
abbrev S2x4096x1 : Shape := ⟨3, ![2, 4096, 1]⟩
abbrev S2048 : Shape := ⟨1, ![2048]⟩
abbrev S1x1x2048 : Shape := ⟨3, ![1, 1, 2048]⟩
abbrev S8192x2048 : Shape := ⟨2, ![8192, 2048]⟩
abbrev S2048x8192 : Shape := ⟨2, ![2048, 8192]⟩

abbrev nBuf : Space → Nat
  | .hbm => 82
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S1x2048x2048, .f32⟩
  | .hbm, ⟨2, _⟩ => ⟨S2x4096x2048, .f32⟩
  | .hbm, ⟨3, _⟩ => ⟨S2x1x2048, .f32⟩
  | .hbm, ⟨4, _⟩ => ⟨S1x2048, .f32⟩
  | .hbm, ⟨5, _⟩ => ⟨S1x2048, .f32⟩
  | .hbm, ⟨6, _⟩ => ⟨S2x1x2048, .f32⟩
  | .hbm, ⟨7, _⟩ => ⟨S2x1x2048, .f32⟩
  | .hbm, ⟨8, _⟩ => ⟨S2x4096x2048, .f32⟩
  | .hbm, ⟨9, _⟩ => ⟨S2048x2048, .f32⟩
  | .hbm, ⟨10, _⟩ => ⟨S2x4096x2048, .f32⟩
  | .hbm, ⟨11, _⟩ => ⟨S_, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S_, .f32⟩
  | .hbm, ⟨27, _⟩ => ⟨S2x4096, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x2048, .f32⟩
  | .hbm, ⟨33, _⟩ => ⟨S2x4096x2048, .f32⟩
  | .hbm, ⟨34, _⟩ => ⟨S_, .f32⟩
  | .hbm, ⟨35, _⟩ => ⟨S2x4096x1, .f32⟩
  | .hbm, ⟨36, _⟩ => ⟨S2x4096x1, .f32⟩
  | .hbm, ⟨37, _⟩ => ⟨S2x4096x1, .f32⟩
  | .hbm, ⟨38, _⟩ => ⟨S2x4096x2048, .f32⟩
  | .hbm, ⟨39, _⟩ => ⟨S2x4096x2048, .f32⟩
  | .hbm, ⟨40, _⟩ => ⟨S2048, .f32⟩
  | .hbm, ⟨41, _⟩ => ⟨S1x1x2048, .f32⟩
  | .hbm, ⟨42, _⟩ => ⟨S2x4096x2048, .f32⟩
  | .hbm, ⟨43, _⟩ => ⟨S2x4096x2048, .f32⟩
  | .hbm, ⟨44, _⟩ => ⟨S2048, .f32⟩
  | .hbm, ⟨45, _⟩ => ⟨S1x1x2048, .f32⟩
  | .hbm, ⟨46, _⟩ => ⟨S2x4096x2048, .f32⟩
  | .hbm, ⟨47, _⟩ => ⟨S2x4096x2048, .f32⟩
  | .hbm, ⟨48, _⟩ => ⟨S_, .f32⟩
  | .hbm, ⟨49, _⟩ => ⟨S2x4096, .f32⟩
  | .hbm, ⟨50, _⟩ => ⟨S2x4096x1, .f32⟩
  | .hbm, ⟨51, _⟩ => ⟨S_, .f32⟩
  | .hbm, ⟨52, _⟩ => ⟨S2x4096x1, .f32⟩
  | .hbm, ⟨53, _⟩ => ⟨S2x4096x1, .f32⟩
  | .hbm, ⟨54, _⟩ => ⟨S2x4096x2048, .f32⟩
  | .hbm, ⟨55, _⟩ => ⟨S2x4096x2048, .f32⟩
  | .hbm, ⟨56, _⟩ => ⟨S2x4096x2048, .f32⟩
  | .hbm, ⟨57, _⟩ => ⟨S_, .f32⟩
  | .hbm, ⟨58, _⟩ => ⟨S2x4096, .f32⟩
  | .hbm, ⟨59, _⟩ => ⟨S2x4096x1, .f32⟩
  | .hbm, ⟨60, _⟩ => ⟨S_, .f32⟩
  | .hbm, ⟨61, _⟩ => ⟨S2x4096x1, .f32⟩
  | .hbm, ⟨62, _⟩ => ⟨S2x4096x1, .f32⟩
  | .hbm, ⟨63, _⟩ => ⟨S2x4096x2048, .f32⟩
  | .hbm, ⟨64, _⟩ => ⟨S2x4096x2048, .f32⟩
  | .hbm, ⟨65, _⟩ => ⟨S_, .f32⟩
  | .hbm, ⟨66, _⟩ => ⟨S2x4096x1, .f32⟩
  | .hbm, ⟨67, _⟩ => ⟨S2x4096x1, .f32⟩
  | .hbm, ⟨68, _⟩ => ⟨S2x4096x1, .f32⟩
  | .hbm, ⟨69, _⟩ => ⟨S2x4096x2048, .f32⟩
  | .hbm, ⟨70, _⟩ => ⟨S2x4096x2048, .f32⟩
  | .hbm, ⟨71, _⟩ => ⟨S_, .f32⟩
  | .hbm, ⟨72, _⟩ => ⟨S2x1x2048, .f32⟩
  | .hbm, ⟨73, _⟩ => ⟨S2x1x2048, .f32⟩
  | .hbm, ⟨74, _⟩ => ⟨S2x4096x2048, .f32⟩
  | .hbm, ⟨75, _⟩ => ⟨S2x4096x2048, .f32⟩
  | .hbm, ⟨76, _⟩ => ⟨S2x4096x2048, .f32⟩
  | .hbm, ⟨77, _⟩ => ⟨S2x4096x2048, .f32⟩
  | .hbm, ⟨78, _⟩ => ⟨S2x4096x2048, .bf16⟩
  | .hbm, ⟨79, _⟩ => ⟨S8192x2048, .f32⟩
  | .hbm, ⟨80, _⟩ => ⟨S2048x8192, .f32⟩
  | .hbm, ⟨81, _⟩ => ⟨S2048x8192, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Kernel6.lean ====
abbrev S8192x2048 : Shape := ⟨2, ![8192, 2048]⟩
abbrev S1x2048x2048 : Shape := ⟨3, ![1, 2048, 2048]⟩
abbrev S1x8x2x128x128 : Shape := ⟨5, ![1, 8, 2, 128, 128]⟩
abbrev S2048x2048 : Shape := ⟨2, ![2048, 2048]⟩
abbrev S8x2x128x128 : Shape := ⟨4, ![8, 2, 128, 128]⟩
abbrev S8x2x128x8192 : Shape := ⟨4, ![8, 2, 128, 8192]⟩
abbrev S512x2048 : Shape := ⟨2, ![512, 2048]⟩
abbrev S8x2x128x512 : Shape := ⟨4, ![8, 2, 128, 512]⟩
abbrev S512x256 : Shape := ⟨2, ![512, 256]⟩
abbrev S512 : Shape := ⟨1, ![512]⟩
abbrev S512x1 : Shape := ⟨2, ![512, 1]⟩
abbrev S1x1x128x128 : Shape := ⟨4, ![1, 1, 128, 128]⟩
abbrev S128x128 : Shape := ⟨2, ![128, 128]⟩
abbrev S512x128 : Shape := ⟨2, ![512, 128]⟩
abbrev S128x512 : Shape := ⟨2, ![128, 512]⟩
abbrev S1x1x128x512 : Shape := ⟨4, ![1, 1, 128, 512]⟩

abbrev nBuf : Space → Nat
  | .hbm => 8
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S1x8x2x128x128, .f32⟩
  | .hbm, ⟨3, _⟩ => ⟨S2048x2048, .f32⟩
  | .hbm, ⟨4, _⟩ => ⟨S2048x2048, .bf16⟩
  | .hbm, ⟨5, _⟩ => ⟨S8x2x128x128, .f32⟩
  | .hbm, ⟨6, _⟩ => ⟨S8x2x128x128, .bf16⟩
  | .hbm, ⟨7, _⟩ => ⟨S8x2x128x8192, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S8x2x128x128, .bf16⟩
  | .local _ .vmem, ⟨4, _⟩ => ⟨S8x2x128x512, .f32⟩
  | .local _ .vmem, ⟨5, _⟩ => ⟨S8x2x128x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x2x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x2048 : Shape := ⟨2, ![8192, 2048]⟩
abbrev S1x2048x2048 : Shape := ⟨3, ![1, 2048, 2048]⟩
abbrev S1x8x2x128x128 : Shape := ⟨5, ![1, 8, 2, 128, 128]⟩
abbrev S2048x2048 : Shape := ⟨2, ![2048, 2048]⟩
abbrev S8192x8x256 : Shape := ⟨3, ![8192, 8, 256]⟩
abbrev S_ : Shape := ⟨0, ![]⟩
abbrev S8192x8 : Shape := ⟨2, ![8192, 8]⟩
abbrev S8192x8x1 : Shape := ⟨3, ![8192, 8, 1]⟩
abbrev S8192x8x128 : Shape := ⟨3, ![8192, 8, 128]⟩
abbrev S8x2x128x128 : Shape := ⟨4, ![8, 2, 128, 128]⟩
abbrev S8x1x128x128 : Shape := ⟨4, ![8, 1, 128, 128]⟩
abbrev S8x128x128 : Shape := ⟨3, ![8, 128, 128]⟩
abbrev S8x128x8192 : Shape := ⟨3, ![8, 128, 8192]⟩
abbrev S8192x8x1x128 : Shape := ⟨4, ![8192, 8, 1, 128]⟩
abbrev S8192x8x2x128 : Shape := ⟨4, ![8192, 8, 2, 128]⟩
abbrev S8x2x128x8192 : Shape := ⟨4, ![8, 2, 128, 8192]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S1x8x2x128x128, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x8x256, .f32⟩
  | .hbm, ⟨7, _⟩ => ⟨S_, .f32⟩
  | .hbm, ⟨8, _⟩ => ⟨S8192x8, .f32⟩
  | .hbm, ⟨9, _⟩ => ⟨S8192x8x1, .f32⟩
  | .hbm, ⟨10, _⟩ => ⟨S_, .f32⟩
  | .hbm, ⟨11, _⟩ => ⟨S8192x8x1, .f32⟩
  | .hbm, ⟨12, _⟩ => ⟨S8192x8x1, .f32⟩
  | .hbm, ⟨13, _⟩ => ⟨S8192x8x256, .f32⟩
  | .hbm, ⟨14, _⟩ => ⟨S8192x8x256, .f32⟩
  | .hbm, ⟨15, _⟩ => ⟨S8192x8x256, .f32⟩
  | .hbm, ⟨16, _⟩ => ⟨S_, .f32⟩
  | .hbm, ⟨17, _⟩ => ⟨S8192x8, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S8192x8x256, .f32⟩
  | .hbm, ⟨23, _⟩ => ⟨S8192x8x256, .f32⟩
  | .hbm, ⟨24, _⟩ => ⟨S_, .f32⟩
  | .hbm, ⟨25, _⟩ => ⟨S8192x8x1, .f32⟩
  | .hbm, ⟨26, _⟩ => ⟨S8192x8x1, .f32⟩
  | .hbm, ⟨27, _⟩ => ⟨S8192x8x1, .f32⟩
  | .hbm, ⟨28, _⟩ => ⟨S8192x8x256, .f32⟩
  | .hbm, ⟨29, _⟩ => ⟨S8192x8x256, .f32⟩
  | .hbm, ⟨30, _⟩ => ⟨S8192x8x128, .f32⟩
  | .hbm, ⟨31, _⟩ => ⟨S8x2x128x128, .f32⟩
  | .hbm, ⟨32, _⟩ => ⟨S8x1x128x128, .f32⟩
  | .hbm, ⟨33, _⟩ => ⟨S8x128x128, .f32⟩
  | .hbm, ⟨34, _⟩ => ⟨S8x128x8192, .f32⟩
  | .hbm, ⟨35, _⟩ => ⟨S8192x8x128, .f32⟩
  | .hbm, ⟨36, _⟩ => ⟨S8192x8x128, .f32⟩
  | .hbm, ⟨37, _⟩ => ⟨S8x2x128x128, .f32⟩
  | .hbm, ⟨38, _⟩ => ⟨S8x1x128x128, .f32⟩
  | .hbm, ⟨39, _⟩ => ⟨S8x128x128, .f32⟩
  | .hbm, ⟨40, _⟩ => ⟨S8x128x8192, .f32⟩
  | .hbm, ⟨41, _⟩ => ⟨S8192x8x128, .f32⟩
  | .hbm, ⟨42, _⟩ => ⟨S8192x8x1x128, .f32⟩
  | .hbm, ⟨43, _⟩ => ⟨S8192x8x1x128, .f32⟩
  | .hbm, ⟨44, _⟩ => ⟨S8192x8x2x128, .f32⟩
  | .hbm, ⟨45, _⟩ => ⟨S8x2x128x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Kernel7.lean ====
abbrev S2x4096x2048 : Shape := ⟨3, ![2, 4096, 2048]⟩
abbrev S8192x2048 : Shape := ⟨2, ![8192, 2048]⟩
abbrev S2x1x2048 : Shape := ⟨3, ![2, 1, 2048]⟩
abbrev S1x2048 : Shape := ⟨2, ![1, 2048]⟩
abbrev S2048 : Shape := ⟨1, ![2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S8192x2048, .f32⟩
  | .hbm, ⟨2, _⟩ => ⟨S2x1x2048, .f32⟩
  | .hbm, ⟨3, _⟩ => ⟨S1x2048, .f32⟩
  | .hbm, ⟨4, _⟩ => ⟨S1x2048, .f32⟩
  | .hbm, ⟨5, _⟩ => ⟨S2x4096x2048, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S2x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048, .f32⟩
  | .local _ .vmem, ⟨8, _⟩ => ⟨S1x512x2048, .f32⟩
  | .local _ .vmem, ⟨9, _⟩ => ⟨S1x512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S2x4096x2048 : Shape := ⟨3, ![2, 4096, 2048]⟩
abbrev S8192x2048 : Shape := ⟨2, ![8192, 2048]⟩
abbrev S2x1x2048 : Shape := ⟨3, ![2, 1, 2048]⟩
abbrev S1x2048 : Shape := ⟨2, ![1, 2048]⟩
abbrev S_ : Shape := ⟨0, ![]⟩
abbrev S2x4096 : Shape := ⟨2, ![2, 4096]⟩
abbrev S2x4096x1 : Shape := ⟨3, ![2, 4096, 1]⟩
abbrev S2048 : Shape := ⟨1, ![2048]⟩
abbrev S1x1x2048 : Shape := ⟨3, ![1, 1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8192x2048, .f32⟩
  | .hbm, ⟨2, _⟩ => ⟨S2x1x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S2x4096x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S2x4096x2048, .f32⟩
  | .hbm, ⟨21, _⟩ => ⟨S_, .f32⟩
  | .hbm, ⟨22, _⟩ => ⟨S2x4096, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S2x4096x2048, .f32⟩
  | .hbm, ⟨28, _⟩ => ⟨S2x4096x2048, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x2048, .f32⟩
  | .hbm, ⟨34, _⟩ => ⟨S2x4096x2048, .f32⟩
  | .hbm, ⟨35, _⟩ => ⟨S2048, .f32⟩
  | .hbm, ⟨36, _⟩ => ⟨S1x1x2048, .f32⟩
  | .hbm, ⟨37, _⟩ => ⟨S2x4096x2048, .f32⟩
  | .hbm, ⟨38, _⟩ => ⟨S2x4096x2048, .f32⟩
  | .hbm, ⟨39, _⟩ => ⟨S2048, .f32⟩
  | .hbm, ⟨40, _⟩ => ⟨S1x1x2048, .f32⟩
  | .hbm, ⟨41, _⟩ => ⟨S2x4096x2048, .f32⟩
  | .hbm, ⟨42, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel8.lean ====
abbrev S8192x2048 : Shape := ⟨2, ![8192, 2048]⟩
abbrev S1x2048x20608 : Shape := ⟨3, ![1, 2048, 20608]⟩
abbrev S2048x20608 : Shape := ⟨2, ![2048, 20608]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 6
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1x2048x20608, .f32⟩
  | .hbm, ⟨2, _⟩ => ⟨S2048x20608, .f32⟩
  | .hbm, ⟨3, _⟩ => ⟨S2048x128, .f32⟩
  | .hbm, ⟨4, _⟩ => ⟨S2048x128, .bf16⟩
  | .hbm, ⟨5, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x2048 : Shape := ⟨2, ![8192, 2048]⟩
abbrev S1x2048x20608 : Shape := ⟨3, ![1, 2048, 20608]⟩
abbrev S2x4096x2048 : Shape := ⟨3, ![2, 4096, 2048]⟩
abbrev S2048x20608 : Shape := ⟨2, ![2048, 20608]⟩
abbrev S2x4096x20608 : Shape := ⟨3, ![2, 4096, 20608]⟩
abbrev S2x4096x128 : Shape := ⟨3, ![2, 4096, 128]⟩
abbrev S8192x128 : Shape := ⟨2, ![8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x20608, .f32⟩
  | .hbm, ⟨2, _⟩ => ⟨S8192x2048, .f32⟩
  | .hbm, ⟨3, _⟩ => ⟨S2x4096x2048, .f32⟩
  | .hbm, ⟨4, _⟩ => ⟨S2048x20608, .f32⟩
  | .hbm, ⟨5, _⟩ => ⟨S2x4096x20608, .f32⟩
  | .hbm, ⟨6, _⟩ => ⟨S2x4096x128, .f32⟩
  | .hbm, ⟨7, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S512x2048 : Shape := ⟨2, ![512, 2048]⟩
abbrev S1x2048x20608 : Shape := ⟨3, ![1, 2048, 20608]⟩
abbrev S2048x20608 : Shape := ⟨2, ![2048, 20608]⟩
abbrev S2048x6144 : Shape := ⟨2, ![2048, 6144]⟩
abbrev S2048x8192 : Shape := ⟨2, ![2048, 8192]⟩
abbrev S2048x14336 : Shape := ⟨2, ![2048, 14336]⟩
abbrev S40x512x128 : Shape := ⟨3, ![40, 512, 128]⟩
abbrev S2048x1024 : Shape := ⟨2, ![2048, 1024]⟩
abbrev S8x512x128 : Shape := ⟨3, ![8, 512, 128]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 8
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S1x2048x20608, .f32⟩
  | .hbm, ⟨2, _⟩ => ⟨S2048x20608, .f32⟩
  | .hbm, ⟨3, _⟩ => ⟨S2048x6144, .f32⟩
  | .hbm, ⟨4, _⟩ => ⟨S2048x8192, .f32⟩
  | .hbm, ⟨5, _⟩ => ⟨S2048x14336, .f32⟩
  | .hbm, ⟨6, _⟩ => ⟨S2048x14336, .bf16⟩
  | .hbm, ⟨7, _⟩ => ⟨S40x512x128, .f32⟩
  | .local _ .vmem, ⟨0, _⟩ => ⟨S512x2048, .bf16⟩
  | .local _ .vmem, ⟨1, _⟩ => ⟨S2048x1024, .bf16⟩
  | .local _ .vmem, ⟨2, _⟩ => ⟨S2048x1024, .bf16⟩
  | .local _ .vmem, ⟨3, _⟩ => ⟨S8x512x128, .f32⟩
  | .local _ .vmem, ⟨4, _⟩ => ⟨S8x512x128, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S512x2048 : Shape := ⟨2, ![512, 2048]⟩
abbrev S1x2048x20608 : Shape := ⟨3, ![1, 2048, 20608]⟩
abbrev S2048x20608 : Shape := ⟨2, ![2048, 20608]⟩
abbrev S2048x5120 : Shape := ⟨2, ![2048, 5120]⟩
abbrev S512x5120 : Shape := ⟨2, ![512, 5120]⟩
abbrev S512x40x128 : Shape := ⟨3, ![512, 40, 128]⟩
abbrev S40x512x128 : Shape := ⟨3, ![40, 512, 128]⟩

abbrev nBuf : Space → Nat
  | .hbm => 8
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S1x2048x20608, .f32⟩
  | .hbm, ⟨2, _⟩ => ⟨S512x2048, .f32⟩
  | .hbm, ⟨3, _⟩ => ⟨S2048x20608, .f32⟩
  | .hbm, ⟨4, _⟩ => ⟨S2048x5120, .f32⟩
  | .hbm, ⟨5, _⟩ => ⟨S512x5120, .f32⟩
  | .hbm, ⟨6, _⟩ => ⟨S512x40x128, .f32⟩
  | .hbm, ⟨7, _⟩ => ⟨S40x512x128, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel10.lean ====
abbrev S2x4096x2048 : Shape := ⟨3, ![2, 4096, 2048]⟩
abbrev S2x1x2048 : Shape := ⟨3, ![2, 1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x1x2048, .f32⟩
  | .hbm, ⟨2, _⟩ => ⟨S2x1x2048, .f32⟩
  | .hbm, ⟨3, _⟩ => ⟨S2x4096x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x512x2048, .bf16⟩
  | .local _ .vmem, ⟨7, _⟩ => ⟨S1x512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S2x4096x2048 : Shape := ⟨3, ![2, 4096, 2048]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x1x2048, .f32⟩
  | .hbm, ⟨2, _⟩ => ⟨S2x1x2048, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x2048, .f32⟩
  | .hbm, ⟨25, _⟩ => ⟨S2x4096x2048, .f32⟩
  | .hbm, ⟨26, _⟩ => ⟨S_, .f32⟩
  | .hbm, ⟨27, _⟩ => ⟨S2x1x2048, .f32⟩
  | .hbm, ⟨28, _⟩ => ⟨S2x1x2048, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel11.lean ====
abbrev S8x2048 : Shape := ⟨2, ![8, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S12288, .f32⟩
  | .hbm, ⟨15, _⟩ => ⟨S1x12288, .f32⟩
  | .hbm, ⟨16, _⟩ => ⟨S8x12288, .f32⟩
  | .hbm, ⟨17, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel12.lean ====
abbrev S8x8192x512 : Shape := ⟨3, ![8, 8192, 512]⟩
abbrev S48x8192x128 : Shape := ⟨3, ![48, 8192, 128]⟩
abbrev S112x8192x128 : Shape := ⟨3, ![112, 8192, 128]⟩
abbrev S1x2x64 : Shape := ⟨3, ![1, 2, 64]⟩
abbrev S1x4096 : Shape := ⟨2, ![1, 4096]⟩
abbrev S1x1x64 : Shape := ⟨3, ![1, 1, 64]⟩
abbrev S64 : Shape := ⟨1, ![64]⟩
abbrev S64x64 : Shape := ⟨2, ![64, 64]⟩
abbrev S4096 : Shape := ⟨1, ![4096]⟩
abbrev S8x1x512 : Shape := ⟨3, ![8, 1, 512]⟩
abbrev S8192x4096 : Shape := ⟨2, ![8192, 4096]⟩
abbrev S1x1024x512 : Shape := ⟨3, ![1, 1024, 512]⟩
abbrev S4x1024x128 : Shape := ⟨3, ![4, 1024, 128]⟩
abbrev S1x1x512 : Shape := ⟨3, ![1, 1, 512]⟩
abbrev S1024x512 : Shape := ⟨2, ![1024, 512]⟩
abbrev S1x1024x128 : Shape := ⟨3, ![1, 1024, 128]⟩
abbrev S1024x128 : Shape := ⟨2, ![1024, 128]⟩
abbrev S1x512 : Shape := ⟨2, ![1, 512]⟩
abbrev S1024 : Shape := ⟨1, ![1024]⟩
abbrev S1024x1 : Shape := ⟨2, ![1024, 1]⟩

abbrev nBuf : Space → Nat
  | .hbm => 17
  | .vmem => 14
  | .smem => 0
  | _ => 0

abbrev bufTy : (tb : Table) → Fin (tcTables nBuf tb) → BufTy
  | .hbm, ⟨0, _⟩ => ⟨S8x8192x512, .bf16⟩
  | .hbm, ⟨1, _⟩ => ⟨S8x8192x512, .bf16⟩
  | .hbm, ⟨2, _⟩ => ⟨S48x8192x128, .bf16⟩
  | .hbm, ⟨3, _⟩ => ⟨S112x8192x128, .bf16⟩
  | .hbm, ⟨4, _⟩ => ⟨S1x2x64, .f32⟩
  | .hbm, ⟨5, _⟩ => ⟨S1x4096, .f32⟩
  | .hbm, ⟨6, _⟩ => ⟨S1x1x64, .f32⟩
  | .hbm, ⟨7, _⟩ => ⟨S64, .f32⟩
  | .hbm, ⟨8, _⟩ => ⟨S1x1x64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S4096, .f32⟩
  | .hbm, ⟨13, _⟩ => ⟨S4096, .f32⟩
  | .hbm, ⟨14, _⟩ => ⟨S8x1x512, .f32⟩
  | .hbm, ⟨15, _⟩ => ⟨S8x1x512, .f32⟩
  | .hbm, ⟨16, _⟩ => ⟨S8192x4096, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S4x1024x128, .bf16⟩
  | .local _ .vmem, ⟨5, _⟩ => ⟨S4x1024x128, .bf16⟩
  | .local _ .vmem, ⟨6, _⟩ => ⟨S4x1024x128, .bf16⟩
  | .local _ .vmem, ⟨7, _⟩ => ⟨S4x1024x128, .bf16⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1024x512, .bf16⟩
  | .local _ .vmem, ⟨13, _⟩ => ⟨S1024x512, .bf16⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference12Ideal.lean ====
abbrev S8x8192x512 : Shape := ⟨3, ![8, 8192, 512]⟩
abbrev S48x8192x128 : Shape := ⟨3, ![48, 8192, 128]⟩
abbrev S112x8192x128 : Shape := ⟨3, ![112, 8192, 128]⟩
abbrev S1x2x64 : Shape := ⟨3, ![1, 2, 64]⟩
abbrev S1x4096 : Shape := ⟨2, ![1, 4096]⟩
abbrev S8192x48x128 : Shape := ⟨3, ![8192, 48, 128]⟩
abbrev S8192x6144 : Shape := ⟨2, ![8192, 6144]⟩
abbrev S8192x4096 : Shape := ⟨2, ![8192, 4096]⟩
abbrev S8192x64x64 : Shape := ⟨3, ![8192, 64, 64]⟩
abbrev S1x1x64 : Shape := ⟨3, ![1, 1, 64]⟩
abbrev S64 : Shape := ⟨1, ![64]⟩
abbrev S8192x8x512 : Shape := ⟨3, ![8192, 8, 512]⟩
abbrev S64x1 : Shape := ⟨2, ![64, 1]⟩
abbrev S1x64x1 : Shape := ⟨3, ![1, 64, 1]⟩
abbrev S8192x112x128 : Shape := ⟨3, ![8192, 112, 128]⟩
abbrev S8192x14336 : Shape := ⟨2, ![8192, 14336]⟩
abbrev S_ : Shape := ⟨0, ![]⟩
abbrev S8192x8 : Shape := ⟨2, ![8192, 8]⟩
abbrev S8192x8x1 : Shape := ⟨3, ![8192, 8, 1]⟩
abbrev S4096 : Shape := ⟨1, ![4096]⟩

abbrev nBuf : Space → Nat
  | .hbm => 63
  | .vmem => 0
  | .smem => 0
  | _ => 0

abbrev bufTy : (tb : Table) → Fin (tcTables nBuf tb) → BufTy
  | .hbm, ⟨0, _⟩ => ⟨S8x8192x512, .bf16⟩
  | .hbm, ⟨1, _⟩ => ⟨S8x8192x512, .bf16⟩
  | .hbm, ⟨2, _⟩ => ⟨S48x8192x128, .bf16⟩
  | .hbm, ⟨3, _⟩ => ⟨S112x8192x128, .bf16⟩
  | .hbm, ⟨4, _⟩ => ⟨S1x2x64, .f32⟩
  | .hbm, ⟨5, _⟩ => ⟨S1x4096, .f32⟩
  | .hbm, ⟨6, _⟩ => ⟨S48x8192x128, .f32⟩
  | .hbm, ⟨7, _⟩ => ⟨S8192x48x128, .f32⟩
  | .hbm, ⟨8, _⟩ => ⟨S8192x6144, .f32⟩
  | .hbm, ⟨9, _⟩ => ⟨S8192x4096, .f32⟩
  | .hbm, ⟨10, _⟩ => ⟨S8192x64x64, .f32⟩
  | .hbm, ⟨11, _⟩ => ⟨S1x1x64, .f32⟩
  | .hbm, ⟨12, _⟩ => ⟨S64, .f32⟩
  | .hbm, ⟨13, _⟩ => ⟨S1x1x64, .f32⟩
  | .hbm, ⟨14, _⟩ => ⟨S64, .f32⟩
  | .hbm, ⟨15, _⟩ => ⟨S64, .f32⟩
  | .hbm, ⟨16, _⟩ => ⟨S8x8192x512, .f32⟩
  | .hbm, ⟨17, _⟩ => ⟨S8192x8x512, .f32⟩
  | .hbm, ⟨18, _⟩ => ⟨S8192x4096, .f32⟩
  | .hbm, ⟨19, _⟩ => ⟨S8x8192x512, .f32⟩
  | .hbm, ⟨20, _⟩ => ⟨S8192x8x512, .f32⟩
  | .hbm, ⟨21, _⟩ => ⟨S8192x4096, .f32⟩
  | .hbm, ⟨22, _⟩ => ⟨S8192x4096, .f32⟩
  | .hbm, ⟨23, _⟩ => ⟨S64x1, .f32⟩
  | .hbm, ⟨24, _⟩ => ⟨S1x64x1, .f32⟩
  | .hbm, ⟨25, _⟩ => ⟨S8192x64x64, .f32⟩
  | .hbm, ⟨26, _⟩ => ⟨S8192x64x64, .f32⟩
  | .hbm, ⟨27, _⟩ => ⟨S8192x4096, .f32⟩
  | .hbm, ⟨28, _⟩ => ⟨S8192x4096, .f32⟩
  | .hbm, ⟨29, _⟩ => ⟨S112x8192x128, .f32⟩
  | .hbm, ⟨30, _⟩ => ⟨S8192x112x128, .f32⟩
  | .hbm, ⟨31, _⟩ => ⟨S8192x14336, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x8x512, .f32⟩
  | .hbm, ⟨44, _⟩ => ⟨S8192x8x512, .f32⟩
  | .hbm, ⟨45, _⟩ => ⟨S_, .f32⟩
  | .hbm, ⟨46, _⟩ => ⟨S8192x8, .f32⟩
  | .hbm, ⟨47, _⟩ => ⟨S8192x8x1, .f32⟩
  | .hbm, ⟨48, _⟩ => ⟨S_, .f32⟩
  | .hbm, ⟨49, _⟩ => ⟨S8192x8x1, .f32⟩
  | .hbm, ⟨50, _⟩ => ⟨S8192x8x1, .f32⟩
  | .hbm, ⟨51, _⟩ => ⟨S_, .f32⟩
  | .hbm, ⟨52, _⟩ => ⟨S8192x8x1, .f32⟩
  | .hbm, ⟨53, _⟩ => ⟨S8192x8x1, .f32⟩
  | .hbm, ⟨54, _⟩ => ⟨S8192x8x1, .f32⟩
  | .hbm, ⟨55, _⟩ => ⟨S8192x8x512, .f32⟩
  | .hbm, ⟨56, _⟩ => ⟨S8192x8x512, .f32⟩
  | .hbm, ⟨57, _⟩ => ⟨S8192x4096, .f32⟩
  | .hbm, ⟨58, _⟩ => ⟨S4096, .f32⟩
  | .hbm, ⟨59, _⟩ => ⟨S1x4096, .f32⟩
  | .hbm, ⟨60, _⟩ => ⟨S8192x4096, .f32⟩
  | .hbm, ⟨61, _⟩ => ⟨S8192x4096, .f32⟩
  | .hbm, ⟨62, _⟩ => ⟨S8192x4096, .bf16⟩
  | _, _ => ⟨S8x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_cst_0 : Ref sig .tc := ⟨.hbm, 48, rfl⟩
abbrev main_v33 : Ref sig .tc := ⟨.hbm, 49, rfl⟩
abbrev main_v34 : Ref sig .tc := ⟨.hbm, 50, rfl⟩
abbrev main_cst_1 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Proof.InProj.lean ====
module

public import proofs.«01_k».proof.Proof.Gen.Kernel2Ideal.Frame
public import proofs.«01_k».proof.Proof.Gen.Reference2Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen

variable (m : (ℓ : Loc nD τ sig) → Buf (Elt Ideal) ℓ)

/-- The product of every token with the whole input weight. -/
abbrev proj (x : FVec Ideal Cert.Reference2Ideal.S8192x2048 .bf16) (w : FVec Ideal Cert.Reference2Ideal.S1x2048x20608 .f32) :
    FVec Ideal Cert.Reference2Ideal.S2x4096x20608 .f32 :=
  Host.dotGeneral Cert.Reference2Ideal.dot_S2x4096x2048_S2048x20608_S2x4096x20608_2_0_01_1_n_n none
    (shapeCast _ (extf .f32 x Cert.Reference2Ideal.Gen.bitsLt_bf16_f32) Cert.Reference2Ideal.Gen.shapeCasts_S8192x2048_S2x4096x2048)
    (shapeCast _ w Cert.Reference2Ideal.Gen.shapeCasts_S1x2048x20608_S2048x20608)

/-- The reference's result: the columns either side of the step sizes, as slabs of 128 lanes. -/
def REF (x : FVec Ideal Cert.Reference2Ideal.S8192x2048 .bf16) (w : FVec Ideal Cert.Reference2Ideal.S1x2048x20608 .f32) :
    FVec Ideal Cert.Reference2Ideal.S112x8192x128 .bf16 :=
  truncf .bf16 (transpose Cert.Reference2Ideal.S112x8192x128 [1, 0, 2] (shapeCast _ (concatenate Cert.Reference2Ideal.S2x4096x14336 2
      [⟨Cert.Reference2Ideal.S2x4096x6144, extractStridedSlice Cert.Reference2Ideal.S2x4096x6144 ![0, 0, 6144] (proj x w)
          Cert.Reference2Ideal.Gen.slices_S2x4096x20608_S2x4096x6144_0_0_6144⟩,
        ⟨Cert.Reference2Ideal.S2x4096x8192, extractStridedSlice Cert.Reference2Ideal.S2x4096x8192 ![0, 0, 12416] (proj x w)
          Cert.Reference2Ideal.Gen.slices_S2x4096x20608_S2x4096x8192_0_0_12416⟩]
      Cert.Reference2Ideal.Gen.concatenates_S2x4096x6144_S2x4096x8192_S2x4096x14336_d2)
    Cert.Reference2Ideal.Gen.shapeCasts_S2x4096x14336_S8192x112x128)
    Cert.Reference2Ideal.Gen.transposes_S8192x112x128_S112x8192x128_1_0_2) Cert.Reference2Ideal.Gen.bitsLt_bf16_f32

/-- Where the three windows lie at grid point `t`. -/
theorem blocks_at : ∀ t : Fin cfg0.N, win0_0.index t = ![t.val / 7, 0] ∧ win0_1.index t = ![0, t.val % 7]
    ∧ win0_2.index t = ![t.val % 7, t.val / 7, 0] :=
  (by decide +kernel : ∀ t : Fin grid0.N, _)

/-- The column of the whole weight that column `j` of the kept columns is. -/
abbrev col (j : Nat) (hj : j < 14336) : Fin 20608 := ⟨if j < 6144 then 6144 + j else 6272 + j, by split <;> omega⟩

/-- The reference at an index: the token's row against the kept column. -/
theorem REF_apply (x : FVec Ideal Cert.Reference2Ideal.S8192x2048 .bf16) (w : FVec Ideal Cert.Reference2Ideal.S1x2048x20608 .f32)
    (i : S112x8192x128.Idx) (j : Nat) (hj : j < 14336) (h : (i 0).val * 128 + (i 2).val = j) :
    REF x w i = ∑ l : Fin 2048, x (ix2 (i 1) l) * w (ix3 0 l (col j hj)) := by
  subst h
  pointwise [REF, proj]
  split
  all_goals
    refine Finset.sum_congr rfl fun l _ => congrArg _ (congrArg _ (congrArg (ix3 0 l) (Fin.ext ?_)))
    dsimp only
    split <;> omega

/-- The kept columns of the weight, where the region finds them. -/
theorem weights (c : Dev nD) (l : Fin 2048) (j : Fin 14336) :
    (show FVec Ideal S2048x14336 .bf16 from V m c main_v4) (ix2 l j)
      = (show FVec Ideal S1x2048x20608 .f32 from m ((c : Thread nD τ).loc main_arg1)) (ix3 0 l (col j.val j.isLt)) := by
  entry_read
  pointwise
  split
  all_goals
    refine congrArg _ (congrArg (ix3 0 l) (Fin.ext ?_))
    dsimp only
    split <;> omega

set_option maxHeartbeats 1600000 in
/-- One element of a stored slab: the row of the tokens against the slab's column of the weights. -/
theorem element (c : Dev nD) (t : Fin cfg0.N) (y : S16x1024x128.Idx) (r : Fin 1024) (k : Fin 2048)
    (hr : (y 1).val = r.val) (hk : (y 0).val * 128 + (y 2).val = k.val) :
    ∑ l : Fin 2048, (show FVec Ideal S1024x2048 .bf16 from iblk m c 0 t) (ix2 r l)
        * (show FVec Ideal S2048x2048 .bf16 from iblk m c 1 t) (ix2 l k)
      = REF (m ((c : Thread nD τ).loc main_arg0)) (m ((c : Thread nD τ).loc main_arg1)) (((cfg0.win 2).blk t).view.emb y) := by
  have hj : t.val % 7 * 2048 + k.val < 14336 := by have := k.isLt; omega
  refine Eq.trans ?_ (REF_apply _ _ _ (t.val % 7 * 2048 + k.val) hj (by blk_simp [blocks_at t]; omega)).symm
  refine Finset.sum_congr rfl fun l _ => congrArg₂ _ ?_ (Eq.trans ?_ (weights m c l ⟨_, hj⟩))
  · blk_ext [iblk, V, blocks_at t]
  · blk_ext [iblk, blocks_at t]

set_option maxHeartbeats 1600000 in
/-- The sixteen slabs stored at grid point `t` are the reference's. -/
theorem slabs (c : Dev nD) (t : Fin cfg0.N) (y) :
    out0_2 (iblk m c 0 t) (iblk m c 1 t) y
      = REF (m ((c : Thread nD τ).loc main_arg0)) (m ((c : Thread nD τ).loc main_arg1)) (((cfg0.win 2).blk t).view.emb y) := by
  canon_tiles x h
  all_goals (open_payloads; pointwise; refine element m c t y _ _ h1 ?_; dsimp only; omega)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  exact slabs m c t y

end Cert.Kernel2Ideal.Proj

end
-- ==== Proof.HyProj.lean ====
module

public import proofs.«01_k».proof.Proof.Gen.Kernel3Ideal.Frame
public import proofs.«01_k».proof.Proof.Gen.Reference3Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen

variable (m : (ℓ : Loc nD τ sig) → Buf (Elt Ideal) ℓ)

/-- The reference's result: the leading columns of the product of every token with the input weight, as slabs of 128 lanes. -/
def REF (x : FVec Ideal Cert.Reference3Ideal.S8192x2048 .bf16) (w : FVec Ideal Cert.Reference3Ideal.S1x2048x20608 .f32) :
    FVec Ideal Cert.Reference3Ideal.S48x8192x128 .f32 :=
  transpose Cert.Reference3Ideal.S48x8192x128 [1, 0, 2] (shapeCast _ (extractStridedSlice Cert.Reference3Ideal.S2x4096x6144 ![0, 0, 0]
      (Host.dotGeneral Cert.Reference3Ideal.dot_S2x4096x2048_S2048x20608_S2x4096x20608_2_0_01_1_n_n none
        (shapeCast _ (extf .f32 x Cert.Reference3Ideal.Gen.bitsLt_bf16_f32) Cert.Reference3Ideal.Gen.shapeCasts_S8192x2048_S2x4096x2048)
        (shapeCast _ w Cert.Reference3Ideal.Gen.shapeCasts_S1x2048x20608_S2048x20608))
      Cert.Reference3Ideal.Gen.slices_S2x4096x20608_S2x4096x6144_0_0_0)
    Cert.Reference3Ideal.Gen.shapeCasts_S2x4096x6144_S8192x48x128)
    Cert.Reference3Ideal.Gen.transposes_S8192x48x128_S48x8192x128_1_0_2

/-- Where the three windows lie at grid point `t`. -/
theorem blocks_at : ∀ t : Fin cfg0.N, win0_0.index t = ![t.val / 3, 0] ∧ win0_1.index t = ![0, t.val % 3]
    ∧ win0_2.index t = ![t.val % 3, t.val / 3, 0] :=
  (by decide +kernel : ∀ t : Fin grid0.N, _)

set_option maxHeartbeats 1600000 in
/-- One element of a stored slab: the row of the tokens against the slab's column of the weights. -/
theorem element (c : Dev nD) (t : Fin cfg0.N) (y : S16x1024x128.Idx) (r : Fin 1024) (k : Fin 2048)
    (hr : (y 1).val = r.val) (hk : (y 0).val * 128 + (y 2).val = k.val) :
    ∑ l : Fin 2048, (show FVec Ideal S1024x2048 .bf16 from iblk m c 0 t) (ix2 r l)
        * (show FVec Ideal S2048x2048 .bf16 from iblk m c 1 t) (ix2 l k)
      = REF (m ((c : Thread nD τ).loc main_arg0)) (m ((c : Thread nD τ).loc main_arg1)) (((cfg0.win 2).blk t).view.emb y) := by
  pointwise [REF]

  blk_point [iblk, V, blocks_at t]

set_option maxHeartbeats 1600000 in
/-- The sixteen slabs stored at grid point `t` are the reference's. -/
theorem slabs (c : Dev nD) (t : Fin cfg0.N) (y) :
    out0_2 (iblk m c 0 t) (iblk m c 1 t) y
      = REF (m ((c : Thread nD τ).loc main_arg0)) (m ((c : Thread nD τ).loc main_arg1)) (((cfg0.win 2).blk t).view.emb y) := by
  canon_tiles x h
  all_goals (open_payloads; pointwise; refine element m c t y _ _ h1 ?_; dsimp only; omega)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  exact slabs m c t y

end Cert.Kernel3Ideal.Proj

end
-- ==== Proof.Branches.lean ====
module

public import proofs.«01_k».proof.Proof.Gen.Kernel4Ideal.Frame
public import proofs.«01_k».proof.Proof.Gen.Reference4Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen

variable (m : (ℓ : Loc nD τ sig) → Buf (Elt Ideal) ℓ)

/-- The two gates of every token: the logistic function of the last columns of the projection. -/
abbrev gates (p : FVec Ideal Cert.Reference4Ideal.S112x8192x128 .bf16) : FVec Ideal Cert.Reference4Ideal.S8192x4096 .f32 :=
  Host.divf (broadcastInDim Cert.Reference4Ideal.S8192x4096 ![] Cert.Reference4Ideal.Gen.bcast_S_S8192x4096 (constant Cert.Reference4Ideal.S_ .f32 0x3F800000#32))
    (addf (broadcastInDim Cert.Reference4Ideal.S8192x4096 ![] Cert.Reference4Ideal.Gen.bcast_S_S8192x4096 (constant Cert.Reference4Ideal.S_ .f32 0x3F800000#32))
      (Host.exp (Host.negf (extractStridedSlice Cert.Reference4Ideal.S8192x4096 ![0, 10240]
        (shapeCast Cert.Reference4Ideal.S8192x14336 (transpose Cert.Reference4Ideal.S8192x112x128 [1, 0, 2] (extf .f32 p Cert.Reference4Ideal.Gen.bitsLt_bf16_f32)
          Cert.Reference4Ideal.Gen.transposes_S112x8192x128_S8192x112x128_1_0_2) Cert.Reference4Ideal.Gen.shapeCasts_S8192x112x128_S8192x14336)
        Cert.Reference4Ideal.Gen.slices_S8192x14336_S8192x4096_0_10240))))

/-- The reference's result: each branch projected, times its gate, and the two added. -/
def REF (a : FVec Ideal Cert.Reference4Ideal.S16x8192x128 .f32) (b : FVec Ideal Cert.Reference4Ideal.S8192x4096 .bf16)
    (v : FVec Ideal Cert.Reference4Ideal.S1x2048x2048 .f32) (w : FVec Ideal Cert.Reference4Ideal.S1x4096x2048 .f32)
    (p : FVec Ideal Cert.Reference4Ideal.S112x8192x128 .bf16) : FVec Ideal Cert.Reference4Ideal.S8192x2048 .bf16 :=
  truncf .bf16 (addf
    (mulf (extractStridedSlice Cert.Reference4Ideal.S8192x2048 ![0, 0] (gates p) Cert.Reference4Ideal.Gen.slices_S8192x4096_S8192x2048_0_0)
      (Host.dotGeneral Cert.Reference4Ideal.dot_S8192x2048_S2048x2048_S8192x2048_1_0_0_1_n_n none
        (shapeCast _ (transpose Cert.Reference4Ideal.S8192x16x128 [1, 0, 2] a Cert.Reference4Ideal.Gen.transposes_S16x8192x128_S8192x16x128_1_0_2)
          Cert.Reference4Ideal.Gen.shapeCasts_S8192x16x128_S8192x2048)
        (shapeCast _ v Cert.Reference4Ideal.Gen.shapeCasts_S1x2048x2048_S2048x2048)))
    (mulf (extractStridedSlice Cert.Reference4Ideal.S8192x2048 ![0, 2048] (gates p) Cert.Reference4Ideal.Gen.slices_S8192x4096_S8192x2048_0_2048)
      (Host.dotGeneral Cert.Reference4Ideal.dot_S8192x4096_S4096x2048_S8192x2048_1_0_0_1_n_n none (extf .f32 b Cert.Reference4Ideal.Gen.bitsLt_bf16_f32)
        (shapeCast _ w Cert.Reference4Ideal.Gen.shapeCasts_S1x4096x2048_S4096x2048)))) Cert.Reference4Ideal.Gen.bitsLt_bf16_f32

/-- Where the seven windows lie at grid point `t`. -/
theorem blocks_at : ∀ t : Fin cfg0.N, win0_0.index t = ![0, t.val / 2, 0] ∧ win0_1.index t = ![t.val / 2, 0]
    ∧ win0_2.index t = ![0, t.val % 2] ∧ win0_3.index t = ![0, t.val % 2]
    ∧ win0_4.index t = ![10 + t.val % 2, t.val / 2, 0] ∧ win0_5.index t = ![12 + t.val % 2, t.val / 2, 0]
    ∧ win0_6.index t = ![t.val / 2, t.val % 2] :=
  (by decide +kernel : ∀ t : Fin grid0.N, _)

/-- The slabs of the second branch's gate, side by side, and all the rest of the last payload. -/
theorem merged (u v g : FVec Ideal S512x1024 .f32) (G : Vec Ideal S8x512x128 .bf16) (r : Fin 512) (q : Fin 1024) :
    k0_pay1 u v g (k0_pay20 (View.ld G r0_19)) (k0_pay21 (View.ld G r0_20)) (k0_pay22 (View.ld G r0_21))
        (k0_pay23 (View.ld G r0_22)) (k0_pay24 (View.ld G r0_23)) (k0_pay25 (View.ld G r0_24)) (k0_pay26 (View.ld G r0_25))
        (View.ld G r0_26) (ix2 r q)
      = Ideal.div 1 (1 + Ideal.exp (0 - g (ix2 r q))) * u (ix2 r q)
        + Ideal.div 1 (1 + Ideal.exp (0 - (show FVec Ideal S8x512x128 .bf16 from G) (ix3 ⟨q.val / 128, by omega⟩ r ⟨q.val % 128, by omega⟩))) * v (ix2 r q) := by
  pointwise [k0_pay1, k0_pay20, k0_pay21, k0_pay22, k0_pay23, k0_pay24, k0_pay25, k0_pay26]
  blk_point

/-- The slabs of the first branch's gate, side by side. -/
theorem stacked (G : Vec Ideal S8x512x128 .bf16) (r : Fin 512) (q : Fin 1024) :
    k0_pay19 (k0_pay15 (View.ld G r0_19)) (k0_pay16 (View.ld G r0_20)) (k0_pay17 (View.ld G r0_21))
        (k0_pay18 (View.ld G r0_22)) (View.ld G r0_23) (View.ld G r0_24) (View.ld G r0_25) (View.ld G r0_26) (ix2 r q)
      = (show FVec Ideal S8x512x128 .bf16 from G) (ix3 ⟨q.val / 128, by omega⟩ r ⟨q.val % 128, by omega⟩) := by
  pointwise [k0_pay19, k0_pay15, k0_pay16, k0_pay17, k0_pay18]
  blk_point

/-- Sixteen slabs of 128 lanes, side by side. -/
def sideBySide (f : Fin 16 → FVec Ideal S512x128 .f32) : FVec Ideal S512x2048 .f32 :=
  concatenate S512x2048 1 (List.ofFn fun n : Fin 16 => (⟨S512x128, f n⟩ : (s : Shape) × (s.Idx → EReal)))
    concatenates_S512x128_S512x128_S512x128_S512x128_S512x128_S512x128_S512x128_S512x128_S512x128_S512x128_S512x128_S512x128_S512x128_S512x128_S512x128_S512x128_S512x2048_d1

/-- Lane `k` of the slabs side by side is lane `k % 128` of slab `k / 128`. -/
theorem sideBySide_apply (f : Fin 16 → FVec Ideal S512x128 .f32) (r : Fin 512) (k : Fin 2048) :
    sideBySide f (ix2 r k) = f ⟨k.val / 128, by omega⟩ (ix2 r ⟨k.val % 128, by omega⟩) := by
  refine concatenate_ofFn_apply (t := S512x2048) (s₁ := S512x128) 1 f _ rfl 128 rfl (ix2 r k) ⟨k.val / 128, by omega⟩ rfl (ix2 r ⟨k.val % 128, by omega⟩) rfl fun b hb => ?_
  match b, hb with
  | ⟨0, _⟩, _ => rfl
  | ⟨1, _⟩, hb => exact absurd rfl hb

/-- The sixteen slabs of a block, each without its leading axis. -/
abbrev slabs (A : Vec Ideal S16x512x128 .f32) : Fin 16 → FVec Ideal S512x128 .f32 :=
  ![k0_pay2 (View.ld A r0_0), k0_pay3 (View.ld A r0_1), k0_pay4 (View.ld A r0_2), k0_pay5 (View.ld A r0_3), k0_pay6 (View.ld A r0_4), k0_pay7 (View.ld A r0_5), k0_pay8 (View.ld A r0_6), k0_pay9 (View.ld A r0_7), k0_pay10 (View.ld A r0_8), k0_pay11 (View.ld A r0_9), k0_pay12 (View.ld A r0_10), shapeCast S512x128 (View.ld A r0_11) shapeCasts_S1x512x128_S512x128, shapeCast S512x128 (View.ld A r0_12) shapeCasts_S1x512x128_S512x128, shapeCast S512x128 (View.ld A r0_13) shapeCasts_S1x512x128_S512x128, shapeCast S512x128 (View.ld A r0_14) shapeCasts_S1x512x128_S512x128, shapeCast S512x128 (View.ld A r0_15) shapeCasts_S1x512x128_S512x128]

/-- Slab `n` of the block, read off the block. -/
theorem slabs_eq (A : Vec Ideal S16x512x128 .f32) (n : Fin 16) (r : Fin 512) (k : Fin 128) :
    slabs A n (ix2 r k) = (show FVec Ideal S16x512x128 .f32 from A) (ix3 n r k) := by
  fin_cases n
  all_goals
    simp only [slabs]
    open_payloads
    pointwise

/-- The first branch's product: the slabs side by side against the weight's block. -/
theorem product (A : Vec Ideal S16x512x128 .f32) (W : Vec Ideal S2048x1024 .bf16) (r : Fin 512) (q : Fin 1024) :
    k0_pay13 (k0_pay2 (View.ld A r0_0)) (k0_pay3 (View.ld A r0_1)) (k0_pay4 (View.ld A r0_2)) (k0_pay5 (View.ld A r0_3)) (k0_pay6 (View.ld A r0_4)) (k0_pay7 (View.ld A r0_5)) (k0_pay8 (View.ld A r0_6)) (k0_pay9 (View.ld A r0_7)) (k0_pay10 (View.ld A r0_8)) (k0_pay11 (View.ld A r0_9)) (k0_pay12 (View.ld A r0_10)) (View.ld A r0_11) (View.ld A r0_12) (View.ld A r0_13) (View.ld A r0_14) (View.ld A r0_15) W (ix2 r q)
      = ∑ k : Fin 2048, (show FVec Ideal S16x512x128 .f32 from A) (ix3 ⟨k.val / 128, by omega⟩ r ⟨k.val % 128, by omega⟩)
          * (show FVec Ideal S2048x1024 .bf16 from W) (ix2 k q) := by
  have e : k0_pay13 (k0_pay2 (View.ld A r0_0)) (k0_pay3 (View.ld A r0_1)) (k0_pay4 (View.ld A r0_2)) (k0_pay5 (View.ld A r0_3)) (k0_pay6 (View.ld A r0_4)) (k0_pay7 (View.ld A r0_5)) (k0_pay8 (View.ld A r0_6)) (k0_pay9 (View.ld A r0_7)) (k0_pay10 (View.ld A r0_8)) (k0_pay11 (View.ld A r0_9)) (k0_pay12 (View.ld A r0_10)) (View.ld A r0_11) (View.ld A r0_12) (View.ld A r0_13) (View.ld A r0_14) (View.ld A r0_15) W
      = matmul (φ₁ := .bf16) (φ₂ := .bf16) dot_S512x2048_S2048x1024_S512x1024_1_0_0_1_n_n none
        (truncf .bf16 (sideBySide (slabs A)) bitsLt_bf16_f32) (shapeCast S2048x1024 W shapeCasts_S2048x1024_S2048x1024)
        (constant S512x1024 .f32 0x00000000#32) := rfl
  rw [e]
  pointwise
  exact Finset.sum_congr rfl fun k _ => congrArg (· * _) ((sideBySide_apply _ r k).trans (slabs_eq A _ r _))

/-- The second branch's product. -/
theorem product_ssd (B : Vec Ideal S512x4096 .bf16) (W : Vec Ideal S4096x1024 .bf16) (r : Fin 512) (q : Fin 1024) :
    k0_pay14 B W (ix2 r q) = ∑ l : Fin 4096, (show FVec Ideal S512x4096 .bf16 from B) (ix2 r l)
        * (show FVec Ideal S4096x1024 .bf16 from W) (ix2 l q) := by
  pointwise [k0_pay14]

/-- The gate of a token and a channel. -/
abbrev gate (x : EReal) : EReal := Ideal.div 1 (1 + Ideal.exp (-x))

/-- The reference at an index. -/
theorem REF_apply (a : FVec Ideal Cert.Reference4Ideal.S16x8192x128 .f32) (b : FVec Ideal Cert.Reference4Ideal.S8192x4096 .bf16)
    (v : FVec Ideal Cert.Reference4Ideal.S1x2048x2048 .f32) (w : FVec Ideal Cert.Reference4Ideal.S1x4096x2048 .f32)
    (p : FVec Ideal Cert.Reference4Ideal.S112x8192x128 .bf16) (i : S8192x2048.Idx) (R : Fin 8192) (Q : Fin 2048)
    (h0 : (i 0).val = R.val) (h1 : (i 1).val = Q.val) :
    REF a b v w p i
      = gate (p (ix3 ⟨80 + Q.val / 128, by omega⟩ R ⟨Q.val % 128, by omega⟩))
          * (∑ k : Fin 2048, a (ix3 ⟨k.val / 128, by omega⟩ R ⟨k.val % 128, by omega⟩) * v (ix3 0 k Q))
        + gate (p (ix3 ⟨96 + Q.val / 128, by omega⟩ R ⟨Q.val % 128, by omega⟩))
          * ∑ l : Fin 4096, b (ix2 R l) * w (ix3 0 l Q) := by
  idx_vars i
  obtain rfl := Fin.ext h0
  obtain rfl := Fin.ext h1
  pointwise [REF, gates]
  refine congrArg₂ (· + ·) (congrArg₂ (· * ·) (congrArg (fun z => gate (p z)) ?_) rfl)
    (congrArg₂ (· * ·) (congrArg (fun z => gate (p z)) ?_) rfl)
  · refine congrArg₂ (fun (x : Fin 112) (z : Fin 128) => ix3 x i0 z) (Fin.ext ?_) (Fin.ext ?_)
    · show (10240 + i1.val) / 128 = 80 + i1.val / 128
      omega
    · show (10240 + i1.val) % 128 = i1.val % 128
      omega
  · refine congrArg₂ (fun (x : Fin 112) (z : Fin 128) => ix3 x i0 z) (Fin.ext ?_) (Fin.ext ?_)
    · show (10240 + (2048 + i1.val)) / 128 = 96 + i1.val / 128
      omega
    · show (10240 + (2048 + i1.val)) % 128 = i1.val % 128
      omega

/-- There are 32 grid points. -/
theorem point_lt (t : Fin cfg0.N) : t.val < 32 := t.isLt

/-- The token of row `r` of a block. -/
abbrev token (t : Fin cfg0.N) (r : Fin 512) : Fin 8192 := ⟨t.val / 2 * 512 + r.val, by have := point_lt t; omega⟩

/-- The channel of column `q` of a block. -/
abbrev chan (t : Fin cfg0.N) (q : Fin 1024) : Fin 2048 := ⟨t.val % 2 * 1024 + q.val, by omega⟩

theorem read_hy (c : Dev nD) (t : Fin cfg0.N) (n : Fin 16) (r : Fin 512) (k : Fin 128) :
    (show FVec Ideal S16x512x128 .f32 from iblk m c 0 t) (ix3 n r k)
      = (show FVec Ideal S16x8192x128 .f32 from m ((c : Thread nD τ).loc main_arg0)) (ix3 n (token t r) k) := by
  blk_ext [iblk, V, blocks_at t]

theorem read_ss (c : Dev nD) (t : Fin cfg0.N) (r : Fin 512) (l : Fin 4096) :
    (show FVec Ideal S512x4096 .bf16 from iblk m c 1 t) (ix2 r l)
      = (show FVec Ideal S8192x4096 .bf16 from m ((c : Thread nD τ).loc main_arg1)) (ix2 (token t r) l) := by
  blk_ext [iblk, V, blocks_at t]

theorem weights_hy (c : Dev nD) (k Q : Fin 2048) :
    (show FVec Ideal S2048x2048 .bf16 from V m c main_v1) (ix2 k Q)
      = (show FVec Ideal S1x2048x2048 .f32 from m ((c : Thread nD τ).loc main_arg2)) (ix3 0 k Q) := by
  entry_read
  pointwise

theorem weights_ss (c : Dev nD) (l : Fin 4096) (Q : Fin 2048) :
    (show FVec Ideal S4096x2048 .bf16 from V m c main_v3) (ix2 l Q)
      = (show FVec Ideal S1x4096x2048 .f32 from m ((c : Thread nD τ).loc main_arg3)) (ix3 0 l Q) := by
  entry_read
  pointwise

theorem read_whh (c : Dev nD) (t : Fin cfg0.N) (k : Fin 2048) (q : Fin 1024) :
    (show FVec Ideal S2048x1024 .bf16 from iblk m c 2 t) (ix2 k q)
      = (show FVec Ideal S1x2048x2048 .f32 from m ((c : Thread nD τ).loc main_arg2)) (ix3 0 k (chan t q)) := by
  refine Eq.trans ?_ (weights_hy m c k (chan t q))
  blk_ext [iblk, blocks_at t]

theorem read_wss (c : Dev nD) (t : Fin cfg0.N) (l : Fin 4096) (q : Fin 1024) :
    (show FVec Ideal S4096x1024 .bf16 from iblk m c 3 t) (ix2 l q)
      = (show FVec Ideal S1x4096x2048 .f32 from m ((c : Thread nD τ).loc main_arg3)) (ix3 0 l (chan t q)) := by
  refine Eq.trans ?_ (weights_ss m c l (chan t q))
  blk_ext [iblk, blocks_at t]

theorem read_gh (c : Dev nD) (t : Fin cfg0.N) (r : Fin 512) (q : Fin 1024) :
    (show FVec Ideal S8x512x128 .bf16 from iblk m c 4 t) (ix3 ⟨q.val / 128, by omega⟩ r ⟨q.val % 128, by omega⟩)
      = (show FVec Ideal S112x8192x128 .bf16 from m ((c : Thread nD τ).loc main_arg4))
        (ix3 ⟨80 + (chan t q).val / 128, by have := (chan t q).isLt; omega⟩ (token t r) ⟨(chan t q).val % 128, by omega⟩) := by
  blk_ext [iblk, V, blocks_at t]

theorem read_gs (c : Dev nD) (t : Fin cfg0.N) (r : Fin 512) (q : Fin 1024) :
    (show FVec Ideal S8x512x128 .bf16 from iblk m c 5 t) (ix3 ⟨q.val / 128, by omega⟩ r ⟨q.val % 128, by omega⟩)
      = (show FVec Ideal S112x8192x128 .bf16 from m ((c : Thread nD τ).loc main_arg4))
        (ix3 ⟨96 + (chan t q).val / 128, by have := (chan t q).isLt; omega⟩ (token t r) ⟨(chan t q).val % 128, by omega⟩) := by
  blk_ext [iblk, V, blocks_at t]

set_option maxHeartbeats 1600000 in
/-- What is stored at grid point `t` is the reference's block. -/
theorem value (c : Dev nD) (t : Fin cfg0.N) (y : S512x1024.Idx) :
    k0_pay1 (k0_pay13 (k0_pay2 (View.ld (iblk m c 0 t) r0_0)) (k0_pay3 (View.ld (iblk m c 0 t) r0_1))
        (k0_pay4 (View.ld (iblk m c 0 t) r0_2)) (k0_pay5 (View.ld (iblk m c 0 t) r0_3))
        (k0_pay6 (View.ld (iblk m c 0 t) r0_4)) (k0_pay7 (View.ld (iblk m c 0 t) r0_5))
        (k0_pay8 (View.ld (iblk m c 0 t) r0_6)) (k0_pay9 (View.ld (iblk m c 0 t) r0_7))
        (k0_pay10 (View.ld (iblk m c 0 t) r0_8)) (k0_pay11 (View.ld (iblk m c 0 t) r0_9))
        (k0_pay12 (View.ld (iblk m c 0 t) r0_10)) (View.ld (iblk m c 0 t) r0_11) (View.ld (iblk m c 0 t) r0_12)
        (View.ld (iblk m c 0 t) r0_13) (View.ld (iblk m c 0 t) r0_14) (View.ld (iblk m c 0 t) r0_15) (iblk m c 2 t))
      (k0_pay14 (iblk m c 1 t) (iblk m c 3 t))
      (k0_pay19 (k0_pay15 (View.ld (iblk m c 4 t) r0_19)) (k0_pay16 (View.ld (iblk m c 4 t) r0_20))
        (k0_pay17 (View.ld (iblk m c 4 t) r0_21)) (k0_pay18 (View.ld (iblk m c 4 t) r0_22))
        (View.ld (iblk m c 4 t) r0_23) (View.ld (iblk m c 4 t) r0_24) (View.ld (iblk m c 4 t) r0_25)
        (View.ld (iblk m c 4 t) r0_26))
      (k0_pay20 (View.ld (iblk m c 5 t) r0_19)) (k0_pay21 (View.ld (iblk m c 5 t) r0_20))
      (k0_pay22 (View.ld (iblk m c 5 t) r0_21)) (k0_pay23 (View.ld (iblk m c 5 t) r0_22))
      (k0_pay24 (View.ld (iblk m c 5 t) r0_23)) (k0_pay25 (View.ld (iblk m c 5 t) r0_24))
      (k0_pay26 (View.ld (iblk m c 5 t) r0_25)) (View.ld (iblk m c 5 t) r0_26) y
      = REF (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 6).blk t).view.emb y) := by
  idx_vars y
  refine Eq.trans ?_ (REF_apply _ _ _ _ _ _ (token t y0) (chan t y1) (by blk_simp [blocks_at t]) (by blk_simp [blocks_at t])).symm
  refine (merged _ _ _ _ _ _).trans (congrArg₂ (· + ·) (congrArg₂ (· * ·) (congrArg (fun z => Ideal.div 1 (1 + Ideal.exp z)) ?_) ?_)
    (congrArg₂ (· * ·) (congrArg (fun z => Ideal.div 1 (1 + Ideal.exp z)) ?_) ?_))
  · exact (congrArg (0 - ·) ((stacked _ _ _).trans (read_gh m c t y0 y1))).trans (zero_sub _)
  · exact (product _ _ _ _).trans (Finset.sum_congr rfl fun k _ => congrArg₂ _ (read_hy m c t _ y0 _) (read_whh m c t k y1))
  · exact (congrArg (0 - ·) (read_gs m c t y0 y1)).trans (zero_sub _)
  · exact (product_ssd _ _ _ _).trans (Finset.sum_congr rfl fun l _ => congrArg₂ _ (read_ss m c t y0 l) (read_wss m c t l y1))

set_option maxHeartbeats 1600000 in
theorem final (c : Dev nD) : (dats m 0 c).arrAt 6 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  blk_simp
  rw [after0_6]
  frame_out
  exact value m c t y

end Cert.Kernel4Ideal.Proj

end
-- ==== Proof.OutProj.lean ====
module

public import proofs.«01_k».proof.Proof.Gen.Kernel5Ideal.Frame
public import proofs.«01_k».proof.Proof.Gen.Reference5Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen

variable (m : (ℓ : Loc nD τ sig) → Buf (Elt Ideal) ℓ)

/-- A row less its mean, over the root of its variance, as the kernel writes it for a block of rows. -/
abbrev nrm (v : FVec Ideal S512x2048 .f32) : FVec Ideal S512x2048 .f32 :=
  have u : FVec Ideal S512x2048 .f32 := subf v (broadcastTo S512x2048 (divf
    (shapeCast S512x1 (multiReduction .add [1] S512 v 0x00000000#32 reduces_S512x2048_S512 (.inl rfl) rfl) shapeCasts_S512_S512x1)
    (broadcast S512x1 (Scalar.ofBits .f32 0x45000000#32))) broadcasts_S512x1_S512x2048)
  mulf u (broadcastTo S512x2048 (rsqrt (addf (divf
    (shapeCast S512x1 (multiReduction .add [1] S512 (mulf u u) 0x00000000#32 reduces_S512x2048_S512 (.inl rfl) rfl) shapeCasts_S512_S512x1)
    (broadcast S512x1 (Scalar.ofBits .f32 0x45000000#32))) (broadcast S512x1 (Scalar.ofBits .f32 0x358637BD#32)))) broadcasts_S512x1_S512x2048)

/-- A row's mean, as the reference writes it for all rows. -/
abbrev rmean (v : FVec Ideal Cert.Reference5Ideal.S2x4096x2048 .f32) : FVec Ideal Cert.Reference5Ideal.S2x4096x1 .f32 :=
  Host.divf (broadcastInDim Cert.Reference5Ideal.S2x4096x1 ![0, 1] Cert.Reference5Ideal.Gen.bcast_S2x4096_S2x4096x1_0_1
      (Host.reduceAdd v (constant Cert.Reference5Ideal.S_ .f32 0x00000000#32) Cert.Reference5Ideal.Gen.reducesTo_S2x4096x2048_S2x4096_d2 Cert.Reference5Ideal.Gen.h_S_))
    (broadcastInDim Cert.Reference5Ideal.S2x4096x1 ![] Cert.Reference5Ideal.Gen.bcast_S_S2x4096x1 (constant Cert.Reference5Ideal.S_ .f32 0x45000000#32))

/-- A row less its mean, as the reference writes it for all rows. -/
abbrev rcent (v : FVec Ideal Cert.Reference5Ideal.S2x4096x2048 .f32) : FVec Ideal Cert.Reference5Ideal.S2x4096x2048 .f32 :=
  subf v (broadcastInDim Cert.Reference5Ideal.S2x4096x2048 ![0, 1, 2] Cert.Reference5Ideal.Gen.bcast_S2x4096x1_S2x4096x2048_0_1_2 (rmean v))

/-- A row less its mean, over the root of its variance, as the reference writes it for all rows. -/
abbrev rnrm (v : FVec Ideal Cert.Reference5Ideal.S2x4096x2048 .f32) : FVec Ideal Cert.Reference5Ideal.S2x4096x2048 .f32 :=
  mulf (rcent v) (broadcastInDim Cert.Reference5Ideal.S2x4096x2048 ![0, 1, 2] Cert.Reference5Ideal.Gen.bcast_S2x4096x1_S2x4096x2048_0_1_2
    (Host.rsqrt (addf (rmean (mulf (rcent v) (rcent v)))
      (broadcastInDim Cert.Reference5Ideal.S2x4096x1 ![] Cert.Reference5Ideal.Gen.bcast_S_S2x4096x1 (constant Cert.Reference5Ideal.S_ .f32 0x358637BD#32)))))

/-- The two agree on equal rows. -/
theorem nrm_eq (v : FVec Ideal S512x2048 .f32) (w : FVec Ideal Cert.Reference5Ideal.S2x4096x2048 .f32) (r : Fin 512) (b : Fin 2)
    (l : Fin 4096) (h : ∀ k : Fin 2048, v (ix2 r k) = w (ix3 b l k)) (q : Fin 2048) :
    nrm v (ix2 r q) = rnrm w (ix3 b l q) := by
  pointwise [nrm, rnrm, rcent, rmean]
  simp only [h]

/-- The residual stream before the norm, as the kernel writes it for a block of rows. -/
def pre (x0 : Vec Ideal S1x512x2048 .bf16) (x1 : Vec Ideal S2048x2048 .bf16) (x2 : Vec Ideal S1x512x2048 .f32)
    (x3 : Vec Ideal S1x1x2048 .f32) : FVec Ideal S512x2048 .f32 :=
  addf (mulf (broadcast S512x2048 (Scalar.ofBits .f32 0x3F9837F0#32)) (shapeCast S512x2048 x2 shapeCasts_S1x512x2048_S512x2048))
    (mulf (broadcastTo S512x2048 (shapeCast S1x2048 x3 shapeCasts_S1x1x2048_S1x2048) broadcasts_S1x2048_S512x2048)
      (matmul (φ₁ := .bf16) (φ₂ := .bf16) dot_S512x2048_S2048x2048_S512x2048_1_0_0_1_n_n none
        (shapeCast S512x2048 x0 shapeCasts_S1x512x2048_S512x2048)
        (shapeCast S2048x2048 x1 shapeCasts_S2048x2048_S2048x2048) (constant S512x2048 .f32 0x00000000#32)))

/-- The residual stream before the norm, as the reference writes it. -/
def rpre (a : FVec Ideal Cert.Reference5Ideal.S2x4096x2048 .bf16) (w : FVec Ideal Cert.Reference5Ideal.S1x2048x2048 .f32)
    (x : FVec Ideal Cert.Reference5Ideal.S2x4096x2048 .f32) (gt : FVec Ideal Cert.Reference5Ideal.S2x1x2048 .f32) : FVec Ideal Cert.Reference5Ideal.S2x4096x2048 .f32 :=
  addf (mulf (broadcastInDim Cert.Reference5Ideal.S2x4096x2048 ![] Cert.Reference5Ideal.Gen.bcast_S_S2x4096x2048 (constant Cert.Reference5Ideal.S_ .f32 0x3F9837F0#32)) x)
    (mulf (broadcastInDim Cert.Reference5Ideal.S2x4096x2048 ![0, 1, 2] Cert.Reference5Ideal.Gen.bcast_S2x1x2048_S2x4096x2048_0_1_2 gt)
      (Host.dotGeneral Cert.Reference5Ideal.dot_S2x4096x2048_S2048x2048_S2x4096x2048_2_0_01_1_n_n none
        (extf .f32 a Cert.Reference5Ideal.Gen.bitsLt_bf16_f32) (shapeCast _ w Cert.Reference5Ideal.Gen.shapeCasts_S1x2048x2048_S2048x2048)))

/-- The layer norm's result. -/
def H (a : FVec Ideal Cert.Reference5Ideal.S2x4096x2048 .bf16) (w : FVec Ideal Cert.Reference5Ideal.S1x2048x2048 .f32)
    (x : FVec Ideal Cert.Reference5Ideal.S2x4096x2048 .f32) (gt : FVec Ideal Cert.Reference5Ideal.S2x1x2048 .f32)
    (g b : FVec Ideal Cert.Reference5Ideal.S1x2048 .f32) : FVec Ideal Cert.Reference5Ideal.S2x4096x2048 .f32 :=
  addf (mulf (rnrm (rpre a w x gt)) (broadcastInDim Cert.Reference5Ideal.S2x4096x2048 ![0, 1, 2] Cert.Reference5Ideal.Gen.bcast_S1x1x2048_S2x4096x2048_0_1_2
      (broadcastInDim Cert.Reference5Ideal.S1x1x2048 ![2] Cert.Reference5Ideal.Gen.bcast_S2048_S1x1x2048_2 (shapeCast _ g Cert.Reference5Ideal.Gen.shapeCasts_S1x2048_S2048))))
    (broadcastInDim Cert.Reference5Ideal.S2x4096x2048 ![0, 1, 2] Cert.Reference5Ideal.Gen.bcast_S1x1x2048_S2x4096x2048_0_1_2
      (broadcastInDim Cert.Reference5Ideal.S1x1x2048 ![2] Cert.Reference5Ideal.Gen.bcast_S2048_S1x1x2048_2 (shapeCast _ b Cert.Reference5Ideal.Gen.shapeCasts_S1x2048_S2048)))

/-- A stream normalised again, scaled and shifted. -/
def modulated (h : FVec Ideal Cert.Reference5Ideal.S2x4096x2048 .f32) (sc sh : FVec Ideal Cert.Reference5Ideal.S2x1x2048 .f32) :
    FVec Ideal Cert.Reference5Ideal.S2x4096x2048 .f32 :=
  addf (mulf (rnrm h) (broadcastInDim Cert.Reference5Ideal.S2x4096x2048 ![0, 1, 2] Cert.Reference5Ideal.Gen.bcast_S2x1x2048_S2x4096x2048_0_1_2
      (addf (broadcastInDim Cert.Reference5Ideal.S2x1x2048 ![] Cert.Reference5Ideal.Gen.bcast_S_S2x1x2048 (constant Cert.Reference5Ideal.S_ .f32 0x3F800000#32)) sc)))
    (broadcastInDim Cert.Reference5Ideal.S2x4096x2048 ![0, 1, 2] Cert.Reference5Ideal.Gen.bcast_S2x1x2048_S2x4096x2048_0_1_2 sh)

/-- The modulated stream, in bf16. -/
def M (h : FVec Ideal Cert.Reference5Ideal.S2x4096x2048 .f32) (sc sh : FVec Ideal Cert.Reference5Ideal.S2x1x2048 .f32) :
    FVec Ideal Cert.Reference5Ideal.S2x4096x2048 .bf16 := truncf .bf16 (modulated h sc sh) Cert.Reference5Ideal.Gen.bitsLt_bf16_f32

/-- The modulated stream with channels before tokens, in bf16. -/
def MT (h : FVec Ideal Cert.Reference5Ideal.S2x4096x2048 .f32) (sc sh : FVec Ideal Cert.Reference5Ideal.S2x1x2048 .f32) :
    FVec Ideal Cert.Reference5Ideal.S2048x8192 .bf16 :=
  truncf .bf16 (transpose Cert.Reference5Ideal.S2048x8192 [1, 0]
    (shapeCast Cert.Reference5Ideal.S8192x2048 (modulated h sc sh) Cert.Reference5Ideal.Gen.shapeCasts_S2x4096x2048_S8192x2048)
    Cert.Reference5Ideal.Gen.transposes_S8192x2048_S2048x8192_1_0) Cert.Reference5Ideal.Gen.bitsLt_bf16_f32

/-- Where the windows lie at grid point `t`. -/
theorem blocks_at : ∀ t : Fin cfg0.N, win0_0.index t = ![t.val / 8, t.val % 8, 0] ∧ win0_1.index t = ![0, 0]
    ∧ win0_2.index t = ![t.val / 8, t.val % 8, 0] ∧ win0_3.index t = ![t.val / 8, 0, 0]
    ∧ win0_4.index t = ![0, 0] ∧ win0_5.index t = ![0, 0] ∧ win0_6.index t = ![t.val / 8, 0, 0] ∧ win0_7.index t = ![t.val / 8, 0, 0]
    ∧ win0_8.index t = ![t.val / 8, t.val % 8, 0] ∧ win0_9.index t = ![t.val / 8, t.val % 8, 0] ∧ win0_10.index t = ![0, t.val] :=
  (by decide +kernel : ∀ t : Fin grid0.N, _)

/-- There are 16 grid points. -/
theorem point_lt (t : Fin cfg0.N) : t.val < 16 := t.isLt

/-- The batch entry of a block. -/
abbrev entry (t : Fin cfg0.N) : Fin 2 := ⟨t.val / 8, by have := point_lt t; omega⟩

/-- The token of row `r` of a block. -/
abbrev token (t : Fin cfg0.N) (r : Fin 512) : Fin 4096 := ⟨t.val % 8 * 512 + r.val, by omega⟩

theorem weights (c : Dev nD) (k q : Fin 2048) :
    (show FVec Ideal S2048x2048 .bf16 from V m c main_v1) (ix2 k q)
      = (show FVec Ideal S1x2048x2048 .f32 from m ((c : Thread nD τ).loc main_arg1)) (ix3 0 k q) := by
  entry_read
  pointwise

theorem gains (c : Dev nD) (q : Fin 2048) :
    (show FVec Ideal S1x2048 .f32 from V m c main_v4) (ix2 0 q)
      = (show FVec Ideal S1x2048 .f32 from m ((c : Thread nD τ).loc main_arg4)) (ix2 0 q) := by
  entry_read
  pointwise

theorem shifts (c : Dev nD) (q : Fin 2048) :
    (show FVec Ideal S1x2048 .f32 from V m c main_v5) (ix2 0 q)
      = (show FVec Ideal S1x2048 .f32 from m ((c : Thread nD τ).loc main_arg5)) (ix2 0 q) := by
  entry_read
  pointwise

theorem read_a (c : Dev nD) (t : Fin cfg0.N) (r : Fin 512) (k : Fin 2048) :
    (show FVec Ideal S1x512x2048 .bf16 from iblk m c 0 t) (ix3 0 r k)
      = (show FVec Ideal S2x4096x2048 .bf16 from m ((c : Thread nD τ).loc main_arg0)) (ix3 (entry t) (token t r) k) := by
  blk_ext [iblk, V, blocks_at t]

theorem read_w (c : Dev nD) (t : Fin cfg0.N) (k q : Fin 2048) :
    (show FVec Ideal S2048x2048 .bf16 from iblk m c 1 t) (ix2 k q)
      = (show FVec Ideal S1x2048x2048 .f32 from m ((c : Thread nD τ).loc main_arg1)) (ix3 0 k q) := by
  refine Eq.trans ?_ (weights m c k q)
  blk_ext [iblk, blocks_at t]

theorem read_x (c : Dev nD) (t : Fin cfg0.N) (r : Fin 512) (k : Fin 2048) :
    (show FVec Ideal S1x512x2048 .f32 from iblk m c 2 t) (ix3 0 r k)
      = (show FVec Ideal S2x4096x2048 .f32 from m ((c : Thread nD τ).loc main_arg2)) (ix3 (entry t) (token t r) k) := by
  blk_ext [iblk, V, blocks_at t]

theorem read_gt (c : Dev nD) (t : Fin cfg0.N) (k : Fin 2048) :
    (show FVec Ideal S1x1x2048 .f32 from iblk m c 3 t) (ix3 0 0 k)
      = (show FVec Ideal S2x1x2048 .f32 from m ((c : Thread nD τ).loc main_arg3)) (ix3 (entry t) 0 k) := by
  blk_ext [iblk, V, blocks_at t]

theorem read_g (c : Dev nD) (t : Fin cfg0.N) (k : Fin 2048) :
    (show FVec Ideal S1x2048 .f32 from iblk m c 4 t) (ix2 0 k)
      = (show FVec Ideal S1x2048 .f32 from m ((c : Thread nD τ).loc main_arg4)) (ix2 0 k) := by
  refine Eq.trans ?_ (gains m c k)
  blk_ext [iblk, blocks_at t]

theorem read_b (c : Dev nD) (t : Fin cfg0.N) (k : Fin 2048) :
    (show FVec Ideal S1x2048 .f32 from iblk m c 5 t) (ix2 0 k)
      = (show FVec Ideal S1x2048 .f32 from m ((c : Thread nD τ).loc main_arg5)) (ix2 0 k) := by
  refine Eq.trans ?_ (shifts m c k)
  blk_ext [iblk, blocks_at t]

theorem read_sc (c : Dev nD) (t : Fin cfg0.N) (k : Fin 2048) :
    (show FVec Ideal S1x1x2048 .f32 from iblk m c 6 t) (ix3 0 0 k)
      = (show FVec Ideal S2x1x2048 .f32 from m ((c : Thread nD τ).loc main_arg6)) (ix3 (entry t) 0 k) := by
  blk_ext [iblk, V, blocks_at t]

theorem read_sh (c : Dev nD) (t : Fin cfg0.N) (k : Fin 2048) :
    (show FVec Ideal S1x1x2048 .f32 from iblk m c 7 t) (ix3 0 0 k)
      = (show FVec Ideal S2x1x2048 .f32 from m ((c : Thread nD τ).loc main_arg7)) (ix3 (entry t) 0 k) := by
  blk_ext [iblk, V, blocks_at t]

/-- The reference's stream of device `c`. -/
abbrev Hm (c : Dev nD) : FVec Ideal Cert.Reference5Ideal.S2x4096x2048 .f32 :=
  H (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem pre_eq (c : Dev nD) (t : Fin cfg0.N) (r : Fin 512) (q : Fin 2048) :
    pre (iblk m c 0 t) (iblk m c 1 t) (iblk m c 2 t) (iblk m c 3 t) (ix2 r q)
      = rpre (m ((c : Thread nD τ).loc main_arg0)) (m ((c : Thread nD τ).loc main_arg1)) (m ((c : Thread nD τ).loc main_arg2))
        (m ((c : Thread nD τ).loc main_arg3)) (ix3 (entry t) (token t r) q) := by
  pointwise [pre, rpre]
  exact congrArg₂ (· + ·) (congrArg _ (read_x m c t r q)) (congrArg₂ (· * ·) (read_gt m c t q)
    (Finset.sum_congr rfl fun k _ => congrArg₂ (· * ·) (read_a m c t r k) (read_w m c t k q)))

/-- The kernel's stream after the norm, for the block of grid point `t`. -/
abbrev blockH (c : Dev nD) (t : Fin cfg0.N) : FVec Ideal S512x2048 .f32 :=
  k0_pay3 (k0_pay1 (iblk m c 0 t) (iblk m c 1 t) (iblk m c 2 t) (iblk m c 3 t) (iblk m c 4 t)) (k0_pay2 (iblk m c 5 t))

theorem h_eq (c : Dev nD) (t : Fin cfg0.N) (r : Fin 512) (q : Fin 2048) :
    blockH m c t (ix2 r q) = Hm m c (ix3 (entry t) (token t r) q) := by
  have e : blockH m c t = addf (mulf (nrm (pre (iblk m c 0 t) (iblk m c 1 t) (iblk m c 2 t) (iblk m c 3 t)))
      (broadcastTo S512x2048 (shapeCast S1x2048 (iblk m c 4 t) shapeCasts_S1x2048_S1x2048) broadcasts_S1x2048_S512x2048))
      (broadcastTo S512x2048 (shapeCast S1x2048 (iblk m c 5 t) shapeCasts_S1x2048_S1x2048) broadcasts_S1x2048_S512x2048) := rfl
  have n := nrm_eq _ _ r (entry t) (token t r) (pre_eq m c t r) q
  have g := read_g m c t q
  have b := read_b m c t q
  rw [e]
  generalize nrm (pre (iblk m c 0 t) (iblk m c 1 t) (iblk m c 2 t) (iblk m c 3 t)) = N at n ⊢
  unfold Hm H
  generalize rnrm (rpre (m ((c : Thread nD τ).loc main_arg0)) (m ((c : Thread nD τ).loc main_arg1)) (m ((c : Thread nD τ).loc main_arg2))
        (m ((c : Thread nD τ).loc main_arg3))) = N' at n ⊢
  pointwise
  exact congrArg₂ (· + ·) (congrArg₂ (· * ·) n g) b

/-- The kernel's modulated stream, for the block of grid point `t`. -/
abbrev blockM (c : Dev nD) (t : Fin cfg0.N) : FVec Ideal S512x2048 .f32 :=
  k0_pay5 (k0_pay1 (iblk m c 0 t) (iblk m c 1 t) (iblk m c 2 t) (iblk m c 3 t) (iblk m c 4 t)) (k0_pay2 (iblk m c 5 t))
    (iblk m c 6 t) (iblk m c 7 t)

theorem m_eq (c : Dev nD) (t : Fin cfg0.N) (r : Fin 512) (q : Fin 2048) :
    blockM m c t (ix2 r q) = modulated (Hm m c) (m ((c : Thread nD τ).loc main_arg6)) (m ((c : Thread nD τ).loc main_arg7))
      (ix3 (entry t) (token t r) q) := by
  have e : blockM m c t = addf (mulf (nrm (blockH m c t))
      (broadcastTo S512x2048 (addf (broadcast S1x2048 (Scalar.ofBits .f32 0x3F800000#32)) (shapeCast S1x2048 (iblk m c 6 t) shapeCasts_S1x1x2048_S1x2048)) broadcasts_S1x2048_S512x2048))
      (broadcastTo S512x2048 (shapeCast S1x2048 (iblk m c 7 t) shapeCasts_S1x1x2048_S1x2048) broadcasts_S1x2048_S512x2048) := rfl
  have n := nrm_eq _ _ r (entry t) (token t r) (h_eq m c t r) q
  have g := read_sc m c t q
  have b := read_sh m c t q
  rw [e]
  generalize nrm (blockH m c t) = N at n ⊢
  unfold modulated
  generalize rnrm (Hm m c) = N' at n ⊢
  pointwise
  exact congrArg₂ (· + ·) (congrArg₂ (· * ·) n (congrArg _ g)) b

theorem pay8_eq (x0 : Vec Ideal S1x512x2048 .bf16) (x1 : Vec Ideal S2048x2048 .bf16) (x2 : Vec Ideal S1x512x2048 .f32)
    (x3 : Vec Ideal S1x1x2048 .f32) (x4 x5 : Vec Ideal S1x2048 .f32) (x6 x7 : Vec Ideal S1x1x2048 .f32) :
    k0_pay8 x0 x1 x2 x3 x4 x5 x6 x7 = k0_pay1 x0 x1 x2 x3 x4 := by
  unfold k0_pay8
  simp (disch := decide) only [View.ld_unit_lit']

theorem pay9_eq (x0 : Vec Ideal S1x512x2048 .bf16) (x1 : Vec Ideal S2048x2048 .bf16) (x2 : Vec Ideal S1x512x2048 .f32)
    (x3 : Vec Ideal S1x1x2048 .f32) (x4 x5 : Vec Ideal S1x2048 .f32) (x6 x7 : Vec Ideal S1x1x2048 .f32) :
    k0_pay9 x0 x1 x2 x3 x4 x5 x6 x7 = k0_pay2 x5 := by
  unfold k0_pay9
  simp (disch := decide) only [View.ld_unit_lit']

theorem pay4_apply (u : FVec Ideal S512x2048 .f32) (v : FVec Ideal S1x2048 .f32) (z : Fin 1) (r : Fin 512) (q : Fin 2048) :
    k0_pay4 u v (ix3 z r q) = k0_pay3 u v (ix2 r q) := by
  unfold k0_pay4
  generalize k0_pay3 (F := Ideal) u v = N
  pointwise

theorem pay6_apply (u : FVec Ideal S512x2048 .f32) (v : FVec Ideal S1x2048 .f32) (a b : Vec Ideal S1x1x2048 .f32) (z : Fin 1)
    (r : Fin 512) (q : Fin 2048) : k0_pay6 u v a b (ix3 z r q) = k0_pay5 u v a b (ix2 r q) := by
  unfold k0_pay6
  generalize k0_pay5 (F := Ideal) u v a b = N
  pointwise

theorem pay7_apply (u : FVec Ideal S512x2048 .f32) (v : FVec Ideal S1x2048 .f32) (a b : Vec Ideal S1x1x2048 .f32)
    (r : Fin 512) (q : Fin 2048) : k0_pay7 u v a b (ix2 q r) = k0_pay5 u v a b (ix2 r q) := by
  unfold k0_pay7
  generalize k0_pay5 (F := Ideal) u v a b = N
  pointwise

theorem value_h (c : Dev nD) (t : Fin cfg0.N) (y : S1x512x2048.Idx) :
    k0_pay4 (k0_pay1 (iblk m c 0 t) (iblk m c 1 t) (iblk m c 2 t) (iblk m c 3 t) (iblk m c 4 t)) (k0_pay2 (iblk m c 5 t)) y
      = Hm m c (((cfg0.win 8).blk t).view.emb y) := by
  idx_vars y
  have e : (((cfg0.win 8).blk t).view.emb (ix3 y0 y1 y2)) = (ix3 (entry t) (token t y1) y2 : S2x4096x2048.Idx) := by
    blk_ext [blocks_at t]
  rw [e]
  exact (pay4_apply _ _ y0 y1 y2).trans (h_eq m c t y1 y2)

theorem value_m (c : Dev nD) (t : Fin cfg0.N) (y : S1x512x2048.Idx) :
    k0_pay6 (k0_pay1 (iblk m c 0 t) (iblk m c 1 t) (iblk m c 2 t) (iblk m c 3 t) (iblk m c 4 t)) (k0_pay2 (iblk m c 5 t))
        (iblk m c 6 t) (iblk m c 7 t) y
      = M (Hm m c) (m ((c : Thread nD τ).loc main_arg6)) (m ((c : Thread nD τ).loc main_arg7)) (((cfg0.win 9).blk t).view.emb y) := by
  idx_vars y
  have e : (((cfg0.win 9).blk t).view.emb (ix3 y0 y1 y2)) = (ix3 (entry t) (token t y1) y2 : S2x4096x2048.Idx) := by
    blk_ext [blocks_at t]
  rw [e]
  refine ((pay6_apply _ _ _ _ y0 y1 y2).trans (m_eq m c t y1 y2)).trans ?_
  unfold M
  generalize modulated _ _ _ = N
  pointwise

theorem value_mt (c : Dev nD) (t : Fin cfg0.N) (y : S2048x512.Idx) :
    k0_pay7 (k0_pay1 (iblk m c 0 t) (iblk m c 1 t) (iblk m c 2 t) (iblk m c 3 t) (iblk m c 4 t)) (k0_pay2 (iblk m c 5 t))
        (iblk m c 6 t) (iblk m c 7 t) y
      = MT (Hm m c) (m ((c : Thread nD τ).loc main_arg6)) (m ((c : Thread nD τ).loc main_arg7)) (((cfg0.win 10).blk t).view.emb y) := by
  idx_vars y
  have e : (((cfg0.win 10).blk t).view.emb (ix2 y0 y1))
      = (ix2 y0 ⟨(entry t).val * 4096 + (token t y1).val, by omega⟩ : S2048x8192.Idx) := by
    blk_ext [blocks_at t]
  rw [e]
  refine ((pay7_apply _ _ _ _ y1 y0).trans (m_eq m c t y1 y0)).trans ?_
  unfold MT
  generalize modulated _ _ _ = N
  pointwise
  refine congrArg₂ (fun (a : Fin 2) (b : Fin 4096) => N (ix3 a b y0)) (Fin.ext ?_) (Fin.ext ?_)
  · dsimp only
    omega
  · dsimp only
    omega

theorem final_h (c : Dev nD) : (dats m 0 c).arrAt 8 (cfgs 0).N = Hm m c := by
  refine (dats m 0 c).arrAt_eq_of_covers 8 _ (by decide +kernel) fun t hf y => ?_
  blk_simp
  rw [after0_8]
  frame_out
  rw [pay8_eq, pay9_eq]
  exact value_h m c t y

theorem final_m (c : Dev nD) : (dats m 0 c).arrAt 9 (cfgs 0).N
    = M (Hm m c) (m ((c : Thread nD τ).loc main_arg6)) (m ((c : Thread nD τ).loc main_arg7)) := by
  refine (dats m 0 c).arrAt_eq_of_covers 9 _ (by decide +kernel) fun t hf y => ?_
  blk_simp
  rw [after0_9]
  frame_out
  rw [pay8_eq, pay9_eq]
  exact value_m m c t y

theorem final_mt (c : Dev nD) : (dats m 0 c).arrAt 10 (cfgs 0).N
    = MT (Hm m c) (m ((c : Thread nD τ).loc main_arg6)) (m ((c : Thread nD τ).loc main_arg7)) := by
  refine (dats m 0 c).arrAt_eq_of_covers 10 _ (by decide +kernel) fun t hf y => ?_
  blk_simp
  rw [after0_10]
  frame_out
  rw [pay8_eq, pay9_eq]
  exact value_mt m c t y

end Cert.Kernel5Ideal.Proj

end
-- ==== Proof.PeerScores.lean ====
module

public import proofs.«01_k».proof.Proof.Gen.Kernel6Ideal.Frame
public import proofs.«01_k».proof.Proof.Gen.Reference6Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Proj

open Cert.Kernel6Ideal Cert.Kernel6Ideal.Gen

variable (m : (ℓ : Loc nD τ sig) → Buf (Elt Ideal) ℓ)

/-- A row less its mean, over the root of its variance, as the kernel writes it for a block of rows. -/
abbrev nrm (v : FVec Ideal S512x256 .f32) : FVec Ideal S512x256 .f32 :=
  have u : FVec Ideal S512x256 .f32 := subf v (broadcastTo S512x256 (divf
    (shapeCast S512x1 (multiReduction .add [1] S512 v 0x00000000#32 reduces_S512x256_S512 (.inl rfl) rfl) shapeCasts_S512_S512x1)
    (broadcast S512x1 (Scalar.ofBits .f32 0x43800000#32))) broadcasts_S512x1_S512x256)
  mulf u (broadcastTo S512x256 (rsqrt (addf (divf
    (shapeCast S512x1 (multiReduction .add [1] S512 (mulf u u) 0x00000000#32 reduces_S512x256_S512 (.inl rfl) rfl) shapeCasts_S512_S512x1)
    (broadcast S512x1 (Scalar.ofBits .f32 0x43800000#32))) (broadcast S512x1 (Scalar.ofBits .f32 0x358637BD#32)))) broadcasts_S512x1_S512x256)

/-- A row's mean, as the reference writes it for all rows. -/
abbrev rmean (v : FVec Ideal Cert.Reference6Ideal.S8192x8x256 .f32) : FVec Ideal Cert.Reference6Ideal.S8192x8x1 .f32 :=
  Host.divf (broadcastInDim Cert.Reference6Ideal.S8192x8x1 ![0, 1] Cert.Reference6Ideal.Gen.bcast_S8192x8_S8192x8x1_0_1
      (Host.reduceAdd v (constant Cert.Reference6Ideal.S_ .f32 0x00000000#32) Cert.Reference6Ideal.Gen.reducesTo_S8192x8x256_S8192x8_d2 Cert.Reference6Ideal.Gen.h_S_))
    (broadcastInDim Cert.Reference6Ideal.S8192x8x1 ![] Cert.Reference6Ideal.Gen.bcast_S_S8192x8x1 (constant Cert.Reference6Ideal.S_ .f32 0x43800000#32))

/-- A row less its mean, as the reference writes it for all rows. -/
abbrev rcent (v : FVec Ideal Cert.Reference6Ideal.S8192x8x256 .f32) : FVec Ideal Cert.Reference6Ideal.S8192x8x256 .f32 :=
  subf v (broadcastInDim Cert.Reference6Ideal.S8192x8x256 ![0, 1, 2] Cert.Reference6Ideal.Gen.bcast_S8192x8x1_S8192x8x256_0_1_2 (rmean v))

/-- A row less its mean, over the root of its variance, as the reference writes it for all rows. -/
abbrev rnrm (v : FVec Ideal Cert.Reference6Ideal.S8192x8x256 .f32) : FVec Ideal Cert.Reference6Ideal.S8192x8x256 .f32 :=
  mulf (rcent v) (broadcastInDim Cert.Reference6Ideal.S8192x8x256 ![0, 1, 2] Cert.Reference6Ideal.Gen.bcast_S8192x8x1_S8192x8x256_0_1_2
    (Host.rsqrt (addf (rmean (mulf (rcent v) (rcent v)))
      (broadcastInDim Cert.Reference6Ideal.S8192x8x1 ![] Cert.Reference6Ideal.Gen.bcast_S_S8192x8x1 (constant Cert.Reference6Ideal.S_ .f32 0x358637BD#32)))))

/-- The two agree on equal rows. -/
theorem nrm_eq (v : FVec Ideal S512x256 .f32) (w : FVec Ideal Cert.Reference6Ideal.S8192x8x256 .f32) (r : Fin 512) (b : Fin 8192)
    (l : Fin 8) (h : ∀ k : Fin 256, v (ix2 r k) = w (ix3 b l k)) (q : Fin 256) :
    nrm v (ix2 r q) = rnrm w (ix3 b l q) := by
  pointwise [nrm, rnrm, rcent, rmean]
  simp only [h]

/-- The queries of every token and head, as the reference writes them. -/
def queries (x : FVec Ideal Cert.Reference6Ideal.S8192x2048 .bf16) (w : FVec Ideal Cert.Reference6Ideal.S1x2048x2048 .f32) :
    FVec Ideal Cert.Reference6Ideal.S8192x8x256 .f32 :=
  shapeCast _ (Host.dotGeneral Cert.Reference6Ideal.dot_S8192x2048_S2048x2048_S8192x2048_1_0_0_1_n_n none (extf .f32 x Cert.Reference6Ideal.Gen.bitsLt_bf16_f32)
    (shapeCast _ w Cert.Reference6Ideal.Gen.shapeCasts_S1x2048x2048_S2048x2048)) Cert.Reference6Ideal.Gen.shapeCasts_S8192x2048_S8192x8x256

/-- The reference's scores from its normalised queries: the two halves against their keys, one beside the other. -/
def scores (n : FVec Ideal Cert.Reference6Ideal.S8192x8x256 .f32) (k : FVec Ideal Cert.Reference6Ideal.S1x8x2x128x128 .f32) :
    FVec Ideal Cert.Reference6Ideal.S8x2x128x8192 .f32 :=
  transpose Cert.Reference6Ideal.S8x2x128x8192 [1, 2, 3, 0] (concatenate Cert.Reference6Ideal.S8192x8x2x128 2
    [⟨Cert.Reference6Ideal.S8192x8x1x128, broadcastInDim Cert.Reference6Ideal.S8192x8x1x128 ![0, 1, 3] Cert.Reference6Ideal.Gen.bcast_S8192x8x128_S8192x8x1x128_0_1_3
        (transpose Cert.Reference6Ideal.S8192x8x128 [2, 0, 1] (Host.dotGeneral Cert.Reference6Ideal.dot_S8x128x128_S8192x8x128_S8x128x8192_2_2_1_0_0_1 none
          (shapeCast Cert.Reference6Ideal.S8x128x128 (extractStridedSlice Cert.Reference6Ideal.S8x1x128x128 ![0, 0, 0, 0]
            (shapeCast Cert.Reference6Ideal.S8x2x128x128 k Cert.Reference6Ideal.Gen.shapeCasts_S1x8x2x128x128_S8x2x128x128) Cert.Reference6Ideal.Gen.slices_S8x2x128x128_S8x1x128x128_0_0_0_0)
            Cert.Reference6Ideal.Gen.shapeCasts_S8x1x128x128_S8x128x128)
          (extractStridedSlice Cert.Reference6Ideal.S8192x8x128 ![0, 0, 0] n Cert.Reference6Ideal.Gen.slices_S8192x8x256_S8192x8x128_0_0_0))
          Cert.Reference6Ideal.Gen.transposes_S8x128x8192_S8192x8x128_2_0_1)⟩,
      ⟨Cert.Reference6Ideal.S8192x8x1x128, broadcastInDim Cert.Reference6Ideal.S8192x8x1x128 ![0, 1, 3] Cert.Reference6Ideal.Gen.bcast_S8192x8x128_S8192x8x1x128_0_1_3
        (transpose Cert.Reference6Ideal.S8192x8x128 [2, 0, 1] (Host.dotGeneral Cert.Reference6Ideal.dot_S8x128x128_S8192x8x128_S8x128x8192_2_2_1_0_0_1 none
          (shapeCast Cert.Reference6Ideal.S8x128x128 (extractStridedSlice Cert.Reference6Ideal.S8x1x128x128 ![0, 1, 0, 0]
            (shapeCast Cert.Reference6Ideal.S8x2x128x128 k Cert.Reference6Ideal.Gen.shapeCasts_S1x8x2x128x128_S8x2x128x128) Cert.Reference6Ideal.Gen.slices_S8x2x128x128_S8x1x128x128_0_1_0_0)
            Cert.Reference6Ideal.Gen.shapeCasts_S8x1x128x128_S8x128x128)
          (extractStridedSlice Cert.Reference6Ideal.S8192x8x128 ![0, 0, 128] n Cert.Reference6Ideal.Gen.slices_S8192x8x256_S8192x8x128_0_0_128))
          Cert.Reference6Ideal.Gen.transposes_S8x128x8192_S8192x8x128_2_0_1)⟩]
    Cert.Reference6Ideal.Gen.concatenates_S8192x8x1x128_S8192x8x1x128_S8192x8x2x128_d2)
    Cert.Reference6Ideal.Gen.transposes_S8192x8x2x128_S8x2x128x8192_1_2_3_0

/-- The reference's result. -/
def REF (x : FVec Ideal Cert.Reference6Ideal.S8192x2048 .bf16) (w : FVec Ideal Cert.Reference6Ideal.S1x2048x2048 .f32)
    (k : FVec Ideal Cert.Reference6Ideal.S1x8x2x128x128 .f32) : FVec Ideal Cert.Reference6Ideal.S8x2x128x8192 .f32 :=
  scores (rnrm (queries x w)) k

/-- The reference at an index: a half of the token's query of the head against the key. -/
theorem scores_apply (n : FVec Ideal Cert.Reference6Ideal.S8192x8x256 .f32) (k : FVec Ideal Cert.Reference6Ideal.S1x8x2x128x128 .f32) (h : Fin 8)
    (s : Fin 2) (j : Fin 128) (l : Fin 8192) :
    scores n k (ix4 h s j l) = ∑ d : Fin 128, k (ix5 0 h s j d) * n (ix3 l h ⟨s.val * 128 + d.val, by omega⟩) := by
  match s with
  | 0 => pointwise [scores]
  | 1 => pointwise [scores]

theorem REF_apply (x : FVec Ideal Cert.Reference6Ideal.S8192x2048 .bf16) (w : FVec Ideal Cert.Reference6Ideal.S1x2048x2048 .f32)
    (k : FVec Ideal Cert.Reference6Ideal.S1x8x2x128x128 .f32) (h : Fin 8) (s : Fin 2) (j : Fin 128) (l : Fin 8192) :
    REF x w k (ix4 h s j l)
      = ∑ d : Fin 128, k (ix5 0 h s j d) * rnrm (queries x w) (ix3 l h ⟨s.val * 128 + d.val, by omega⟩) :=
  scores_apply _ _ _ _ _ _

/-- Where the windows lie at grid point `t`. -/
theorem blocks_at : ∀ t : Fin cfg0.N, win0_0.index t = ![t.val, 0] ∧ win0_1.index t = ![0, 0]
    ∧ win0_2.index t = ![0, 0, 0, 0] ∧ win0_3.index t = ![0, 0, 0, t.val] :=
  (by decide +kernel : ∀ t : Fin grid0.N, _)

/-- There are 16 grid points. -/
theorem point_lt (t : Fin cfg0.N) : t.val < 16 := t.isLt

/-- The token of row `r` of a block. -/
abbrev token (t : Fin cfg0.N) (r : Fin 512) : Fin 8192 := ⟨t.val * 512 + r.val, by have := point_lt t; omega⟩

theorem weights (c : Dev nD) (k q : Fin 2048) :
    (show FVec Ideal S2048x2048 .bf16 from V m c main_v1) (ix2 k q)
      = (show FVec Ideal S1x2048x2048 .f32 from m ((c : Thread nD τ).loc main_arg1)) (ix3 0 k q) := by
  entry_read
  pointwise

theorem keys (c : Dev nD) (h : Fin 8) (s : Fin 2) (j d : Fin 128) :
    (show FVec Ideal S8x2x128x128 .bf16 from V m c main_v3) (ix4 h s j d)
      = (show FVec Ideal S1x8x2x128x128 .f32 from m ((c : Thread nD τ).loc main_arg2)) (ix5 0 h s j d) := by
  entry_read
  pointwise

theorem read_a (c : Dev nD) (t : Fin cfg0.N) (r : Fin 512) (k : Fin 2048) :
    (show FVec Ideal S512x2048 .bf16 from iblk m c 0 t) (ix2 r k)
      = (show FVec Ideal S8192x2048 .bf16 from m ((c : Thread nD τ).loc main_arg0)) (ix2 (token t r) k) := by
  blk_ext [iblk, V, blocks_at t]

theorem read_w (c : Dev nD) (t : Fin cfg0.N) (k q : Fin 2048) :
    (show FVec Ideal S2048x2048 .bf16 from iblk m c 1 t) (ix2 k q)
      = (show FVec Ideal S1x2048x2048 .f32 from m ((c : Thread nD τ).loc main_arg1)) (ix3 0 k q) := by
  refine Eq.trans ?_ (weights m c k q)
  blk_ext [iblk, blocks_at t]

theorem read_k (c : Dev nD) (t : Fin cfg0.N) (h : Fin 8) (s : Fin 2) (j d : Fin 128) :
    (show FVec Ideal S8x2x128x128 .bf16 from iblk m c 2 t) (ix4 h s j d)
      = (show FVec Ideal S1x8x2x128x128 .f32 from m ((c : Thread nD τ).loc main_arg2)) (ix5 0 h s j d) := by
  refine Eq.trans ?_ (keys m c h s j d)
  blk_ext [iblk, blocks_at t]

theorem product (x0 : Vec Ideal S512x2048 .bf16) (x1 : Vec Ideal S2048x2048 .bf16) (x2 : Vec Ideal S8x2x128x128 .bf16)
    (r : Fin 512) (q : Fin 2048) :
    k0_pay35 x0 x1 x2 (ix2 r q) = ∑ k : Fin 2048, (show FVec Ideal S512x2048 .bf16 from x0) (ix2 r k)
      * (show FVec Ideal S2048x2048 .bf16 from x1) (ix2 k q) := by
  unfold k0_pay35
  simp (disch := decide) only [View.ld_unit_lit']
  pointwise [k0_pay4]

theorem query (c : Dev nD) (t : Fin cfg0.N) (r : Fin 512) (h : Fin 8) (q : Fin 256) :
    k0_pay35 (iblk m c 0 t) (iblk m c 1 t) (iblk m c 2 t) (ix2 r ⟨h.val * 256 + q.val, by omega⟩)
      = queries (m ((c : Thread nD τ).loc main_arg0)) (m ((c : Thread nD τ).loc main_arg1)) (ix3 (token t r) h q) := by
  refine (product _ _ _ _ _).trans ?_
  pointwise [queries]
  exact Finset.sum_congr rfl fun k _ => congrArg₂ (· * ·) (read_a m c t r k) (read_w m c t k _)

/-- The keys of the first half against a head's normalised queries. -/
def score0 (v : FVec Ideal S512x256 .f32) (K : Vec Ideal S1x1x128x128 .bf16) : FVec Ideal S1x1x128x512 .f32 :=
  shapeCast S1x1x128x512 (matmul (φ₁ := .bf16) (φ₂ := .bf16) dot_S128x128_S512x128_S128x512_1_1_0_0_n_n none
    (shapeCast S128x128 K shapeCasts_S1x1x128x128_S128x128)
    (extractStridedSlice S512x128 ![0, 0] (truncf .bf16 (nrm v) bitsLt_bf16_f32) slices_S512x256_o0_0_S512x128)
    (constant S128x512 .f32 0x00000000#32)) shapeCasts_S128x512_S1x1x128x512

/-- The keys of the second half against a head's normalised queries. -/
def score1 (v : FVec Ideal S512x256 .f32) (K : Vec Ideal S1x1x128x128 .bf16) : FVec Ideal S1x1x128x512 .f32 :=
  shapeCast S1x1x128x512 (matmul (φ₁ := .bf16) (φ₂ := .bf16) dot_S128x128_S512x128_S128x512_1_1_0_0_n_n none
    (shapeCast S128x128 K shapeCasts_S1x1x128x128_S128x128)
    (extractStridedSlice S512x128 ![0, 128] (truncf .bf16 (nrm v) bitsLt_bf16_f32) slices_S512x256_o0_128_S512x128)
    (constant S128x512 .f32 0x00000000#32)) shapeCasts_S128x512_S1x1x128x512

theorem score0_apply (v : FVec Ideal S512x256 .f32) (K : Vec Ideal S1x1x128x128 .bf16) (a b : Fin 1) (j : Fin 128) (r : Fin 512) :
    score0 v K (ix4 a b j r) = ∑ d : Fin 128, (show FVec Ideal S1x1x128x128 .bf16 from K) (ix4 0 0 j d)
      * nrm v (ix2 r ⟨0 * 128 + d.val, by omega⟩) := by
  unfold score0
  generalize nrm v = N
  pointwise

/-- A piece for the first half of a head's query is the reference's. -/
theorem part0 (c : Dev nD) (t : Fin cfg0.N) (h : Fin 8) (v : FVec Ideal S512x256 .f32) (K : Vec Ideal S1x1x128x128 .bf16)
    (hv : ∀ (r : Fin 512) (q : Fin 256), v (ix2 r q)
      = k0_pay35 (iblk m c 0 t) (iblk m c 1 t) (iblk m c 2 t) (ix2 r ⟨h.val * 256 + q.val, by omega⟩))
    (hK : ∀ j d : Fin 128, (show FVec Ideal S1x1x128x128 .bf16 from K) (ix4 0 0 j d)
      = (show FVec Ideal S8x2x128x128 .bf16 from iblk m c 2 t) (ix4 h 0 j d))
    (x : S1x1x128x512.Idx) (y : S8x2x128x512.Idx) (h0 : (y 0).val = h.val) (h1 : (y 1).val = 0) (h2 : (y 2).val = (x 2).val)
    (h3 : (y 3).val = (x 3).val) :
    score0 v K x = REF (m ((c : Thread nD τ).loc main_arg0)) (m ((c : Thread nD τ).loc main_arg1))
      (m ((c : Thread nD τ).loc main_arg2)) (((cfg0.win 3).blk t).view.emb y) := by
  idx_vars x
  idx_vars y
  obtain rfl : y0 = h := Fin.ext h0
  obtain rfl : y1 = 0 := Fin.ext h1
  obtain rfl : y2 = x2 := Fin.ext h2
  obtain rfl : y3 = x3 := Fin.ext h3
  have e : ((cfg0.win 3).blk t).view.emb (ix4 y0 0 y2 y3) = (ix4 y0 0 y2 (token t y3) : S8x2x128x8192.Idx) := by
    blk_ext [blocks_at t]
  rw [e]
  refine (score0_apply v K _ _ _ _).trans (Eq.trans ?_ (REF_apply _ _ _ y0 0 y2 (token t y3)).symm)
  refine Finset.sum_congr rfl fun d _ => congrArg₂ (· * ·) ((hK _ _).trans (read_k m c t _ _ _ _)) ?_
  exact nrm_eq _ _ y3 (token t y3) y0 (fun k => (hv _ _).trans (query m c t y3 y0 k)) _

theorem score1_apply (v : FVec Ideal S512x256 .f32) (K : Vec Ideal S1x1x128x128 .bf16) (a b : Fin 1) (j : Fin 128) (r : Fin 512) :
    score1 v K (ix4 a b j r) = ∑ d : Fin 128, (show FVec Ideal S1x1x128x128 .bf16 from K) (ix4 0 0 j d)
      * nrm v (ix2 r ⟨1 * 128 + d.val, by omega⟩) := by
  unfold score1
  generalize nrm v = N
  pointwise

/-- A piece for the second half of a head's query is the reference's. -/
theorem part1 (c : Dev nD) (t : Fin cfg0.N) (h : Fin 8) (v : FVec Ideal S512x256 .f32) (K : Vec Ideal S1x1x128x128 .bf16)
    (hv : ∀ (r : Fin 512) (q : Fin 256), v (ix2 r q)
      = k0_pay35 (iblk m c 0 t) (iblk m c 1 t) (iblk m c 2 t) (ix2 r ⟨h.val * 256 + q.val, by omega⟩))
    (hK : ∀ j d : Fin 128, (show FVec Ideal S1x1x128x128 .bf16 from K) (ix4 0 0 j d)
      = (show FVec Ideal S8x2x128x128 .bf16 from iblk m c 2 t) (ix4 h 1 j d))
    (x : S1x1x128x512.Idx) (y : S8x2x128x512.Idx) (h0 : (y 0).val = h.val) (h1 : (y 1).val = 1) (h2 : (y 2).val = (x 2).val)
    (h3 : (y 3).val = (x 3).val) :
    score1 v K x = REF (m ((c : Thread nD τ).loc main_arg0)) (m ((c : Thread nD τ).loc main_arg1))
      (m ((c : Thread nD τ).loc main_arg2)) (((cfg0.win 3).blk t).view.emb y) := by
  idx_vars x
  idx_vars y
  obtain rfl : y0 = h := Fin.ext h0
  obtain rfl : y1 = 1 := Fin.ext h1
  obtain rfl : y2 = x2 := Fin.ext h2
  obtain rfl : y3 = x3 := Fin.ext h3
  have e : ((cfg0.win 3).blk t).view.emb (ix4 y0 1 y2 y3) = (ix4 y0 1 y2 (token t y3) : S8x2x128x8192.Idx) := by
    blk_ext [blocks_at t]
  rw [e]
  refine (score1_apply v K _ _ _ _).trans (Eq.trans ?_ (REF_apply _ _ _ y0 1 y2 (token t y3)).symm)
  refine Finset.sum_congr rfl fun d _ => congrArg₂ (· * ·) ((hK _ _).trans (read_k m c t _ _ _ _)) ?_
  exact nrm_eq _ _ y3 (token t y3) y0 (fun k => (hv _ _).trans (query m c t y3 y0 k)) _

/-- The queries of head 0. -/
abbrev head0 (x0 : Vec Ideal S512x2048 .bf16) (x1 : Vec Ideal S2048x2048 .bf16) (x2 : Vec Ideal S8x2x128x128 .bf16) : FVec Ideal S512x256 .f32 :=
  extractStridedSlice S512x256 ![0, 0] (k0_pay35 x0 x1 x2) slices_S512x2048_o0_0_S512x256

theorem head0_eq (x0 : Vec Ideal S512x2048 .bf16) (x1 : Vec Ideal S2048x2048 .bf16) (x2 : Vec Ideal S8x2x128x128 .bf16) (r : Fin 512) (q : Fin 256) :
    head0 x0 x1 x2 (ix2 r q) = k0_pay35 x0 x1 x2 (ix2 r ⟨0 * 256 + q.val, by omega⟩) := by
  unfold head0
  generalize k0_pay35 x0 x1 x2 = N
  pointwise

theorem piece00_eq (x0 : Vec Ideal S512x2048 .bf16) (x1 : Vec Ideal S2048x2048 .bf16) (x2 : Vec Ideal S8x2x128x128 .bf16) (K : Vec Ideal S1x1x128x128 .bf16) :
    k0_pay6 (View.ld x0 r0_0) (View.ld x1 r0_1) K = score0 (head0 x0 x1 x2) K := rfl

theorem piece01_eq (x0 : Vec Ideal S512x2048 .bf16) (x1 : Vec Ideal S2048x2048 .bf16) (x2 : Vec Ideal S8x2x128x128 .bf16) (K : Vec Ideal S1x1x128x128 .bf16) :
    k0_pay8 (k0_pay7 (View.ld x0 r0_0) (View.ld x1 r0_1) K) = score1 (head0 x0 x1 x2) K := rfl

/-- The queries of head 1. -/
abbrev head1 (x0 : Vec Ideal S512x2048 .bf16) (x1 : Vec Ideal S2048x2048 .bf16) (x2 : Vec Ideal S8x2x128x128 .bf16) : FVec Ideal S512x256 .f32 :=
  extractStridedSlice S512x256 ![0, 256] (k0_pay35 x0 x1 x2) slices_S512x2048_o0_256_S512x256

theorem head1_eq (x0 : Vec Ideal S512x2048 .bf16) (x1 : Vec Ideal S2048x2048 .bf16) (x2 : Vec Ideal S8x2x128x128 .bf16) (r : Fin 512) (q : Fin 256) :
    head1 x0 x1 x2 (ix2 r q) = k0_pay35 x0 x1 x2 (ix2 r ⟨1 * 256 + q.val, by omega⟩) := by
  unfold head1
  generalize k0_pay35 x0 x1 x2 = N
  pointwise

theorem piece10_eq (x0 : Vec Ideal S512x2048 .bf16) (x1 : Vec Ideal S2048x2048 .bf16) (x2 : Vec Ideal S8x2x128x128 .bf16) (K : Vec Ideal S1x1x128x128 .bf16) :
    k0_pay10 (k0_pay35 x0 x1 x2) K = score0 (head1 x0 x1 x2) K := rfl

theorem piece11_eq (x0 : Vec Ideal S512x2048 .bf16) (x1 : Vec Ideal S2048x2048 .bf16) (x2 : Vec Ideal S8x2x128x128 .bf16) (K : Vec Ideal S1x1x128x128 .bf16) :
    k0_pay12 (k0_pay11 (k0_pay35 x0 x1 x2) K) = score1 (head1 x0 x1 x2) K := rfl

/-- The queries of head 2. -/
abbrev head2 (x0 : Vec Ideal S512x2048 .bf16) (x1 : Vec Ideal S2048x2048 .bf16) (x2 : Vec Ideal S8x2x128x128 .bf16) : FVec Ideal S512x256 .f32 :=
  extractStridedSlice S512x256 ![0, 512] (k0_pay35 x0 x1 x2) slices_S512x2048_o0_512_S512x256

theorem head2_eq (x0 : Vec Ideal S512x2048 .bf16) (x1 : Vec Ideal S2048x2048 .bf16) (x2 : Vec Ideal S8x2x128x128 .bf16) (r : Fin 512) (q : Fin 256) :
    head2 x0 x1 x2 (ix2 r q) = k0_pay35 x0 x1 x2 (ix2 r ⟨2 * 256 + q.val, by omega⟩) := by
  unfold head2
  generalize k0_pay35 x0 x1 x2 = N
  pointwise

theorem piece20_eq (x0 : Vec Ideal S512x2048 .bf16) (x1 : Vec Ideal S2048x2048 .bf16) (x2 : Vec Ideal S8x2x128x128 .bf16) (K : Vec Ideal S1x1x128x128 .bf16) :
    k0_pay14 (k0_pay35 x0 x1 x2) K = score0 (head2 x0 x1 x2) K := rfl

theorem piece21_eq (x0 : Vec Ideal S512x2048 .bf16) (x1 : Vec Ideal S2048x2048 .bf16) (x2 : Vec Ideal S8x2x128x128 .bf16) (K : Vec Ideal S1x1x128x128 .bf16) :
    k0_pay15 (k0_pay35 x0 x1 x2) K = score1 (head2 x0 x1 x2) K := rfl

/-- The queries of head 3. -/
abbrev head3 (x0 : Vec Ideal S512x2048 .bf16) (x1 : Vec Ideal S2048x2048 .bf16) (x2 : Vec Ideal S8x2x128x128 .bf16) : FVec Ideal S512x256 .f32 :=
  extractStridedSlice S512x256 ![0, 768] (k0_pay35 x0 x1 x2) slices_S512x2048_o0_768_S512x256

theorem head3_eq (x0 : Vec Ideal S512x2048 .bf16) (x1 : Vec Ideal S2048x2048 .bf16) (x2 : Vec Ideal S8x2x128x128 .bf16) (r : Fin 512) (q : Fin 256) :
    head3 x0 x1 x2 (ix2 r q) = k0_pay35 x0 x1 x2 (ix2 r ⟨3 * 256 + q.val, by omega⟩) := by
  unfold head3
  generalize k0_pay35 x0 x1 x2 = N
  pointwise

theorem piece30_eq (x0 : Vec Ideal S512x2048 .bf16) (x1 : Vec Ideal S2048x2048 .bf16) (x2 : Vec Ideal S8x2x128x128 .bf16) (K : Vec Ideal S1x1x128x128 .bf16) :
    k0_pay17 (k0_pay35 x0 x1 x2) K = score0 (head3 x0 x1 x2) K := rfl

theorem piece31_eq (x0 : Vec Ideal S512x2048 .bf16) (x1 : Vec Ideal S2048x2048 .bf16) (x2 : Vec Ideal S8x2x128x128 .bf16) (K : Vec Ideal S1x1x128x128 .bf16) :
    k0_pay18 (k0_pay35 x0 x1 x2) K = score1 (head3 x0 x1 x2) K := rfl

/-- The queries of head 4. -/
abbrev head4 (x0 : Vec Ideal S512x2048 .bf16) (x1 : Vec Ideal S2048x2048 .bf16) (x2 : Vec Ideal S8x2x128x128 .bf16) : FVec Ideal S512x256 .f32 :=
  extractStridedSlice S512x256 ![0, 1024] (k0_pay35 x0 x1 x2) slices_S512x2048_o0_1024_S512x256

theorem head4_eq (x0 : Vec Ideal S512x2048 .bf16) (x1 : Vec Ideal S2048x2048 .bf16) (x2 : Vec Ideal S8x2x128x128 .bf16) (r : Fin 512) (q : Fin 256) :
    head4 x0 x1 x2 (ix2 r q) = k0_pay35 x0 x1 x2 (ix2 r ⟨4 * 256 + q.val, by omega⟩) := by
  unfold head4
  generalize k0_pay35 x0 x1 x2 = N
  pointwise

theorem piece40_eq (x0 : Vec Ideal S512x2048 .bf16) (x1 : Vec Ideal S2048x2048 .bf16) (x2 : Vec Ideal S8x2x128x128 .bf16) (K : Vec Ideal S1x1x128x128 .bf16) :
    k0_pay21 (k0_pay36 x0 x1 x2) K = score0 (head4 x0 x1 x2) K := rfl

theorem piece41_eq (x0 : Vec Ideal S512x2048 .bf16) (x1 : Vec Ideal S2048x2048 .bf16) (x2 : Vec Ideal S8x2x128x128 .bf16) (K : Vec Ideal S1x1x128x128 .bf16) :
    k0_pay22 (k0_pay36 x0 x1 x2) K = score1 (head4 x0 x1 x2) K := rfl

/-- The queries of head 5. -/
abbrev head5 (x0 : Vec Ideal S512x2048 .bf16) (x1 : Vec Ideal S2048x2048 .bf16) (x2 : Vec Ideal S8x2x128x128 .bf16) : FVec Ideal S512x256 .f32 :=
  extractStridedSlice S512x256 ![0, 1280] (k0_pay35 x0 x1 x2) slices_S512x2048_o0_1280_S512x256

theorem head5_eq (x0 : Vec Ideal S512x2048 .bf16) (x1 : Vec Ideal S2048x2048 .bf16) (x2 : Vec Ideal S8x2x128x128 .bf16) (r : Fin 512) (q : Fin 256) :
    head5 x0 x1 x2 (ix2 r q) = k0_pay35 x0 x1 x2 (ix2 r ⟨5 * 256 + q.val, by omega⟩) := by
  unfold head5
  generalize k0_pay35 x0 x1 x2 = N
  pointwise

theorem piece50_eq (x0 : Vec Ideal S512x2048 .bf16) (x1 : Vec Ideal S2048x2048 .bf16) (x2 : Vec Ideal S8x2x128x128 .bf16) (K : Vec Ideal S1x1x128x128 .bf16) :
    k0_pay26 (k0_pay37 x0 x1 x2) (k0_pay38 x0 x1 x2) (Scalar.ofBits .f32 0x43800000#32) K = score0 (head5 x0 x1 x2) K := rfl

theorem piece51_eq (x0 : Vec Ideal S512x2048 .bf16) (x1 : Vec Ideal S2048x2048 .bf16) (x2 : Vec Ideal S8x2x128x128 .bf16) (K : Vec Ideal S1x1x128x128 .bf16) :
    k0_pay27 (k0_pay37 x0 x1 x2) (k0_pay38 x0 x1 x2) (Scalar.ofBits .f32 0x43800000#32) K = score1 (head5 x0 x1 x2) K := rfl

/-- The queries of head 6. -/
abbrev head6 (x0 : Vec Ideal S512x2048 .bf16) (x1 : Vec Ideal S2048x2048 .bf16) (x2 : Vec Ideal S8x2x128x128 .bf16) : FVec Ideal S512x256 .f32 :=
  extractStridedSlice S512x256 ![0, 1536] (k0_pay35 x0 x1 x2) slices_S512x2048_o0_1536_S512x256

theorem head6_eq (x0 : Vec Ideal S512x2048 .bf16) (x1 : Vec Ideal S2048x2048 .bf16) (x2 : Vec Ideal S8x2x128x128 .bf16) (r : Fin 512) (q : Fin 256) :
    head6 x0 x1 x2 (ix2 r q) = k0_pay35 x0 x1 x2 (ix2 r ⟨6 * 256 + q.val, by omega⟩) := by
  unfold head6
  generalize k0_pay35 x0 x1 x2 = N
  pointwise

theorem piece60_eq (x0 : Vec Ideal S512x2048 .bf16) (x1 : Vec Ideal S2048x2048 .bf16) (x2 : Vec Ideal S8x2x128x128 .bf16) (K : Vec Ideal S1x1x128x128 .bf16) :
    k0_pay31 (k0_pay39 x0 x1 x2) (k0_pay40 x0 x1 x2) K = score0 (head6 x0 x1 x2) K := rfl

theorem piece61_eq (x0 : Vec Ideal S512x2048 .bf16) (x1 : Vec Ideal S2048x2048 .bf16) (x2 : Vec Ideal S8x2x128x128 .bf16) (K : Vec Ideal S1x1x128x128 .bf16) :
    k0_pay32 (k0_pay39 x0 x1 x2) (k0_pay40 x0 x1 x2) K = score1 (head6 x0 x1 x2) K := rfl

/-- The queries of head 7. -/
abbrev head7 (x0 : Vec Ideal S512x2048 .bf16) (x1 : Vec Ideal S2048x2048 .bf16) (x2 : Vec Ideal S8x2x128x128 .bf16) : FVec Ideal S512x256 .f32 :=
  extractStridedSlice S512x256 ![0, 1792] (k0_pay35 x0 x1 x2) slices_S512x2048_o0_1792_S512x256

theorem head7_eq (x0 : Vec Ideal S512x2048 .bf16) (x1 : Vec Ideal S2048x2048 .bf16) (x2 : Vec Ideal S8x2x128x128 .bf16) (r : Fin 512) (q : Fin 256) :
    head7 x0 x1 x2 (ix2 r q) = k0_pay35 x0 x1 x2 (ix2 r ⟨7 * 256 + q.val, by omega⟩) := by
  unfold head7
  generalize k0_pay35 x0 x1 x2 = N
  pointwise

theorem piece70_eq (x0 : Vec Ideal S512x2048 .bf16) (x1 : Vec Ideal S2048x2048 .bf16) (x2 : Vec Ideal S8x2x128x128 .bf16) (K : Vec Ideal S1x1x128x128 .bf16) :
    k0_pay2 (k0_pay41 x0 x1 x2) (k0_pay42 x0 x1 x2) K = score0 (head7 x0 x1 x2) K := rfl

theorem piece71_eq (x0 : Vec Ideal S512x2048 .bf16) (x1 : Vec Ideal S2048x2048 .bf16) (x2 : Vec Ideal S8x2x128x128 .bf16) (K : Vec Ideal S1x1x128x128 .bf16) :
    k0_pay3 (k0_pay41 x0 x1 x2) (k0_pay42 x0 x1 x2) K = score1 (head7 x0 x1 x2) K := rfl

theorem key00 (X : Vec Ideal S8x2x128x128 .bf16) (j d : Fin 128) :
    (show FVec Ideal S1x1x128x128 .bf16 from View.ld X r0_2) (ix4 0 0 j d) = (show FVec Ideal S8x2x128x128 .bf16 from X) (ix4 0 0 j d) := by
  pointwise

theorem key01 (X : Vec Ideal S8x2x128x128 .bf16) (j d : Fin 128) :
    (show FVec Ideal S1x1x128x128 .bf16 from View.ld X r0_4) (ix4 0 0 j d) = (show FVec Ideal S8x2x128x128 .bf16 from X) (ix4 0 1 j d) := by
  pointwise

theorem key10 (X : Vec Ideal S8x2x128x128 .bf16) (j d : Fin 128) :
    (show FVec Ideal S1x1x128x128 .bf16 from View.ld X r0_6) (ix4 0 0 j d) = (show FVec Ideal S8x2x128x128 .bf16 from X) (ix4 1 0 j d) := by
  pointwise

theorem key11 (X : Vec Ideal S8x2x128x128 .bf16) (j d : Fin 128) :
    (show FVec Ideal S1x1x128x128 .bf16 from View.ld X r0_8) (ix4 0 0 j d) = (show FVec Ideal S8x2x128x128 .bf16 from X) (ix4 1 1 j d) := by
  pointwise

theorem key20 (X : Vec Ideal S8x2x128x128 .bf16) (j d : Fin 128) :
    (show FVec Ideal S1x1x128x128 .bf16 from View.ld X r0_10) (ix4 0 0 j d) = (show FVec Ideal S8x2x128x128 .bf16 from X) (ix4 2 0 j d) := by
  pointwise

theorem key21 (X : Vec Ideal S8x2x128x128 .bf16) (j d : Fin 128) :
    (show FVec Ideal S1x1x128x128 .bf16 from View.ld X r0_12) (ix4 0 0 j d) = (show FVec Ideal S8x2x128x128 .bf16 from X) (ix4 2 1 j d) := by
  pointwise

theorem key30 (X : Vec Ideal S8x2x128x128 .bf16) (j d : Fin 128) :
    (show FVec Ideal S1x1x128x128 .bf16 from View.ld X r0_14) (ix4 0 0 j d) = (show FVec Ideal S8x2x128x128 .bf16 from X) (ix4 3 0 j d) := by
  pointwise

theorem key31 (X : Vec Ideal S8x2x128x128 .bf16) (j d : Fin 128) :
    (show FVec Ideal S1x1x128x128 .bf16 from View.ld X r0_16) (ix4 0 0 j d) = (show FVec Ideal S8x2x128x128 .bf16 from X) (ix4 3 1 j d) := by
  pointwise

theorem key40 (X : Vec Ideal S8x2x128x128 .bf16) (j d : Fin 128) :
    (show FVec Ideal S1x1x128x128 .bf16 from View.ld X r0_18) (ix4 0 0 j d) = (show FVec Ideal S8x2x128x128 .bf16 from X) (ix4 4 0 j d) := by
  pointwise

theorem key41 (X : Vec Ideal S8x2x128x128 .bf16) (j d : Fin 128) :
    (show FVec Ideal S1x1x128x128 .bf16 from View.ld X r0_20) (ix4 0 0 j d) = (show FVec Ideal S8x2x128x128 .bf16 from X) (ix4 4 1 j d) := by
  pointwise

theorem key50 (X : Vec Ideal S8x2x128x128 .bf16) (j d : Fin 128) :
    (show FVec Ideal S1x1x128x128 .bf16 from View.ld X r0_22) (ix4 0 0 j d) = (show FVec Ideal S8x2x128x128 .bf16 from X) (ix4 5 0 j d) := by
  pointwise

theorem key51 (X : Vec Ideal S8x2x128x128 .bf16) (j d : Fin 128) :
    (show FVec Ideal S1x1x128x128 .bf16 from View.ld X r0_24) (ix4 0 0 j d) = (show FVec Ideal S8x2x128x128 .bf16 from X) (ix4 5 1 j d) := by
  pointwise

theorem key60 (X : Vec Ideal S8x2x128x128 .bf16) (j d : Fin 128) :
    (show FVec Ideal S1x1x128x128 .bf16 from View.ld X r0_26) (ix4 0 0 j d) = (show FVec Ideal S8x2x128x128 .bf16 from X) (ix4 6 0 j d) := by
  pointwise

theorem key61 (X : Vec Ideal S8x2x128x128 .bf16) (j d : Fin 128) :
    (show FVec Ideal S1x1x128x128 .bf16 from View.ld X r0_28) (ix4 0 0 j d) = (show FVec Ideal S8x2x128x128 .bf16 from X) (ix4 6 1 j d) := by
  pointwise

theorem key70 (X : Vec Ideal S8x2x128x128 .bf16) (j d : Fin 128) :
    (show FVec Ideal S1x1x128x128 .bf16 from View.ld X r0_30) (ix4 0 0 j d) = (show FVec Ideal S8x2x128x128 .bf16 from X) (ix4 7 0 j d) := by
  pointwise

theorem key71 (X : Vec Ideal S8x2x128x128 .bf16) (j d : Fin 128) :
    (show FVec Ideal S1x1x128x128 .bf16 from View.ld X r0_32) (ix4 0 0 j d) = (show FVec Ideal S8x2x128x128 .bf16 from X) (ix4 7 1 j d) := by
  pointwise

/-- The sixteen pieces stored at grid point `t` are the reference's. -/
theorem slabs (c : Dev nD) (t : Fin cfg0.N) (y) :
    out0_3 (iblk m c 0 t) (iblk m c 1 t) (iblk m c 2 t) y
      = REF (m ((c : Thread nD τ).loc main_arg0)) (m ((c : Thread nD τ).loc main_arg1))
        (m ((c : Thread nD τ).loc main_arg2)) (((cfg0.win 3).blk t).view.emb y) := by
  canon_tiles x h
  · exact (congrFun (piece71_eq _ _ _ _) x).trans (part1 m c t 7 _ _ (head7_eq _ _ _) (key71 _) x y (by rw [h0]; show 7 + (x 0).val = 7; omega) (by rw [h1]; show 1 + (x 1).val = 1; omega) h2 h3)
  · exact (congrFun (piece70_eq _ _ _ _) x).trans (part0 m c t 7 _ _ (head7_eq _ _ _) (key70 _) x y (by rw [h0]; show 7 + (x 0).val = 7; omega) (by rw [h1]; show (x 1).val = 0; omega) h2 h3)
  · exact (congrFun (piece61_eq _ _ _ _) x).trans (part1 m c t 6 _ _ (head6_eq _ _ _) (key61 _) x y (by rw [h0]; show 6 + (x 0).val = 6; omega) (by rw [h1]; show 1 + (x 1).val = 1; omega) h2 h3)
  · exact (congrFun (piece60_eq _ _ _ _) x).trans (part0 m c t 6 _ _ (head6_eq _ _ _) (key60 _) x y (by rw [h0]; show 6 + (x 0).val = 6; omega) (by rw [h1]; show (x 1).val = 0; omega) h2 h3)
  · exact (congrFun (piece51_eq _ _ _ _) x).trans (part1 m c t 5 _ _ (head5_eq _ _ _) (key51 _) x y (by rw [h0]; show 5 + (x 0).val = 5; omega) (by rw [h1]; show 1 + (x 1).val = 1; omega) h2 h3)
  · exact (congrFun (piece50_eq _ _ _ _) x).trans (part0 m c t 5 _ _ (head5_eq _ _ _) (key50 _) x y (by rw [h0]; show 5 + (x 0).val = 5; omega) (by rw [h1]; show (x 1).val = 0; omega) h2 h3)
  · exact (congrFun (piece41_eq _ _ _ _) x).trans (part1 m c t 4 _ _ (head4_eq _ _ _) (key41 _) x y (by rw [h0]; show 4 + (x 0).val = 4; omega) (by rw [h1]; show 1 + (x 1).val = 1; omega) h2 h3)
  · exact (congrFun (piece40_eq _ _ _ _) x).trans (part0 m c t 4 _ _ (head4_eq _ _ _) (key40 _) x y (by rw [h0]; show 4 + (x 0).val = 4; omega) (by rw [h1]; show (x 1).val = 0; omega) h2 h3)
  · exact (congrFun (piece31_eq _ _ _ _) x).trans (part1 m c t 3 _ _ (head3_eq _ _ _) (key31 _) x y (by rw [h0]; show 3 + (x 0).val = 3; omega) (by rw [h1]; show 1 + (x 1).val = 1; omega) h2 h3)
  · exact (congrFun (piece30_eq _ _ _ _) x).trans (part0 m c t 3 _ _ (head3_eq _ _ _) (key30 _) x y (by rw [h0]; show 3 + (x 0).val = 3; omega) (by rw [h1]; show (x 1).val = 0; omega) h2 h3)
  · exact (congrFun (piece21_eq _ _ _ _) x).trans (part1 m c t 2 _ _ (head2_eq _ _ _) (key21 _) x y (by rw [h0]; show 2 + (x 0).val = 2; omega) (by rw [h1]; show 1 + (x 1).val = 1; omega) h2 h3)
  · exact (congrFun (piece20_eq _ _ _ _) x).trans (part0 m c t 2 _ _ (head2_eq _ _ _) (key20 _) x y (by rw [h0]; show 2 + (x 0).val = 2; omega) (by rw [h1]; show (x 1).val = 0; omega) h2 h3)
  · exact (congrFun (piece11_eq _ _ _ _) x).trans (part1 m c t 1 _ _ (head1_eq _ _ _) (key11 _) x y (by rw [h0]; show 1 + (x 0).val = 1; omega) (by rw [h1]; show 1 + (x 1).val = 1; omega) h2 h3)
  · exact (congrFun (piece10_eq _ _ _ _) x).trans (part0 m c t 1 _ _ (head1_eq _ _ _) (key10 _) x y (by rw [h0]; show 1 + (x 0).val = 1; omega) (by rw [h1]; show (x 1).val = 0; omega) h2 h3)
  · exact (congrFun (piece01_eq _ _ _ _) x).trans (part1 m c t 0 _ _ (head0_eq _ _ _) (key01 _) x y (by rw [h0]; show (x 0).val = 0; omega) (by rw [h1]; show 1 + (x 1).val = 1; omega) h2 h3)
  · exact (congrFun (piece00_eq _ _ _ _) x).trans (part0 m c t 0 _ _ (head0_eq _ _ _) (key00 _) x y (by rw [h0]; show (x 0).val = 0; omega) (by rw [h1]; show (x 1).val = 0; omega) h2 h3)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact slabs m c t y

end Cert.Kernel6Ideal.Proj

end
-- ==== Proof.LastNorm.lean ====
module

public import proofs.«01_k».proof.Proof.Gen.Kernel7Ideal.Frame
public import proofs.«01_k».proof.Proof.Gen.Reference7Ideal
public import proofs.«01_k».proof.Proof.OutProj
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Proj

open Cert.Kernel7Ideal Cert.Kernel7Ideal.Gen

variable (m : (ℓ : Loc nD τ sig) → Buf (Elt Ideal) ℓ)

/-- A row less its mean, over the root of its variance, as the kernel writes it for a block of rows. -/
def nrm (v : FVec Ideal S512x2048 .f32) : FVec Ideal S512x2048 .f32 := Cert.Kernel5Ideal.Proj.nrm v

/-- A row less its mean, over the root of its variance, as the reference writes it for all rows. -/
def rnrm (v : FVec Ideal Cert.Reference7Ideal.S2x4096x2048 .f32) : FVec Ideal Cert.Reference7Ideal.S2x4096x2048 .f32 := Cert.Kernel5Ideal.Proj.rnrm v

theorem nrm_eq (v : FVec Ideal S512x2048 .f32) (w : FVec Ideal Cert.Reference7Ideal.S2x4096x2048 .f32) (r : Fin 512) (b : Fin 2)
    (l : Fin 4096) (h : ∀ k : Fin 2048, v (ix2 r k) = w (ix3 b l k)) (q : Fin 2048) :
    nrm v (ix2 r q) = rnrm w (ix3 b l q) := Cert.Kernel5Ideal.Proj.nrm_eq v w r b l h q

/-- The residual stream before the norm, as the kernel writes it for a block of rows. -/
def pre (x0 x1 : Vec Ideal S1x512x2048 .f32) (x2 : Vec Ideal S1x1x2048 .f32) : FVec Ideal S512x2048 .f32 :=
  addf (mulf (broadcast S512x2048 (Scalar.ofBits .f32 0x3F9837F0#32)) (shapeCast S512x2048 x0 shapeCasts_S1x512x2048_S512x2048))
    (mulf (broadcastTo S512x2048 (shapeCast S1x2048 x2 shapeCasts_S1x1x2048_S1x2048) broadcasts_S1x2048_S512x2048)
      (shapeCast S512x2048 x1 shapeCasts_S1x512x2048_S512x2048))

/-- The residual stream before the norm, as the reference writes it. -/
def rpre (h : FVec Ideal Cert.Reference7Ideal.S2x4096x2048 .f32) (f : FVec Ideal Cert.Reference7Ideal.S8192x2048 .f32)
    (gt : FVec Ideal Cert.Reference7Ideal.S2x1x2048 .f32) : FVec Ideal Cert.Reference7Ideal.S2x4096x2048 .f32 :=
  addf (mulf (broadcastInDim Cert.Reference7Ideal.S2x4096x2048 ![] Cert.Reference7Ideal.Gen.bcast_S_S2x4096x2048 (constant Cert.Reference7Ideal.S_ .f32 0x3F9837F0#32)) h)
    (mulf (broadcastInDim Cert.Reference7Ideal.S2x4096x2048 ![0, 1, 2] Cert.Reference7Ideal.Gen.bcast_S2x1x2048_S2x4096x2048_0_1_2 gt)
      (shapeCast _ f Cert.Reference7Ideal.Gen.shapeCasts_S8192x2048_S2x4096x2048))

/-- The layer's result. -/
def REF (h : FVec Ideal Cert.Reference7Ideal.S2x4096x2048 .f32) (f : FVec Ideal Cert.Reference7Ideal.S8192x2048 .f32)
    (gt : FVec Ideal Cert.Reference7Ideal.S2x1x2048 .f32) (g b : FVec Ideal Cert.Reference7Ideal.S1x2048 .f32) : FVec Ideal Cert.Reference7Ideal.S2x4096x2048 .f32 :=
  addf (mulf (rnrm (rpre h f gt)) (broadcastInDim Cert.Reference7Ideal.S2x4096x2048 ![0, 1, 2] Cert.Reference7Ideal.Gen.bcast_S1x1x2048_S2x4096x2048_0_1_2
      (broadcastInDim Cert.Reference7Ideal.S1x1x2048 ![2] Cert.Reference7Ideal.Gen.bcast_S2048_S1x1x2048_2 (shapeCast _ g Cert.Reference7Ideal.Gen.shapeCasts_S1x2048_S2048))))
    (broadcastInDim Cert.Reference7Ideal.S2x4096x2048 ![0, 1, 2] Cert.Reference7Ideal.Gen.bcast_S1x1x2048_S2x4096x2048_0_1_2
      (broadcastInDim Cert.Reference7Ideal.S1x1x2048 ![2] Cert.Reference7Ideal.Gen.bcast_S2048_S1x1x2048_2 (shapeCast _ b Cert.Reference7Ideal.Gen.shapeCasts_S1x2048_S2048)))

/-- Where the windows lie at grid point `t`. -/
theorem blocks_at : ∀ t : Fin cfg0.N, win0_0.index t = ![t.val / 8, t.val % 8, 0] ∧ win0_1.index t = ![t.val / 8, t.val % 8, 0]
    ∧ win0_2.index t = ![t.val / 8, 0, 0] ∧ win0_3.index t = ![0, 0] ∧ win0_4.index t = ![0, 0]
    ∧ win0_5.index t = ![t.val / 8, t.val % 8, 0] :=
  (by decide +kernel : ∀ t : Fin grid0.N, _)

/-- There are 16 grid points. -/
theorem point_lt (t : Fin cfg0.N) : t.val < 16 := t.isLt

/-- The batch entry of a block. -/
abbrev entry (t : Fin cfg0.N) : Fin 2 := ⟨t.val / 8, by have := point_lt t; omega⟩

/-- The token of row `r` of a block. -/
abbrev token (t : Fin cfg0.N) (r : Fin 512) : Fin 4096 := ⟨t.val % 8 * 512 + r.val, by omega⟩

theorem read_h (c : Dev nD) (t : Fin cfg0.N) (r : Fin 512) (k : Fin 2048) :
    (show FVec Ideal S1x512x2048 .f32 from iblk m c 0 t) (ix3 0 r k)
      = (show FVec Ideal S2x4096x2048 .f32 from m ((c : Thread nD τ).loc main_arg0)) (ix3 (entry t) (token t r) k) := by
  blk_ext [iblk, V, blocks_at t]

theorem sums (c : Dev nD) (b : Fin 2) (l : Fin 4096) (k : Fin 2048) :
    (show FVec Ideal S2x4096x2048 .f32 from V m c main_v0) (ix3 b l k)
      = (show FVec Ideal S8192x2048 .f32 from m ((c : Thread nD τ).loc main_arg1)) (ix2 ⟨b.val * 4096 + l.val, by omega⟩ k) := by
  entry_read
  pointwise

theorem read_f (c : Dev nD) (t : Fin cfg0.N) (r : Fin 512) (k : Fin 2048) :
    (show FVec Ideal S1x512x2048 .f32 from iblk m c 1 t) (ix3 0 r k)
      = (show FVec Ideal S8192x2048 .f32 from m ((c : Thread nD τ).loc main_arg1))
        (ix2 ⟨(entry t).val * 4096 + (token t r).val, by omega⟩ k) := by
  refine Eq.trans ?_ (sums m c (entry t) (token t r) k)
  blk_ext [iblk, blocks_at t]

theorem read_gt (c : Dev nD) (t : Fin cfg0.N) (k : Fin 2048) :
    (show FVec Ideal S1x1x2048 .f32 from iblk m c 2 t) (ix3 0 0 k)
      = (show FVec Ideal S2x1x2048 .f32 from m ((c : Thread nD τ).loc main_arg2)) (ix3 (entry t) 0 k) := by
  blk_ext [iblk, V, blocks_at t]

theorem row_g (c : Dev nD) (q : Fin 2048) :
    (show FVec Ideal S1x2048 .f32 from V m c main_v3) (ix2 0 q)
      = (show FVec Ideal S1x2048 .f32 from m ((c : Thread nD τ).loc main_arg3)) (ix2 0 q) := by
  entry_read
  pointwise

theorem read_g (c : Dev nD) (t : Fin cfg0.N) (k : Fin 2048) :
    (show FVec Ideal S1x2048 .f32 from iblk m c 3 t) (ix2 0 k)
      = (show FVec Ideal S1x2048 .f32 from m ((c : Thread nD τ).loc main_arg3)) (ix2 0 k) := by
  refine Eq.trans ?_ (row_g m c k)
  blk_ext [iblk, blocks_at t]

theorem row_b (c : Dev nD) (q : Fin 2048) :
    (show FVec Ideal S1x2048 .f32 from V m c main_v4) (ix2 0 q)
      = (show FVec Ideal S1x2048 .f32 from m ((c : Thread nD τ).loc main_arg4)) (ix2 0 q) := by
  entry_read
  pointwise

theorem read_b (c : Dev nD) (t : Fin cfg0.N) (k : Fin 2048) :
    (show FVec Ideal S1x2048 .f32 from iblk m c 4 t) (ix2 0 k)
      = (show FVec Ideal S1x2048 .f32 from m ((c : Thread nD τ).loc main_arg4)) (ix2 0 k) := by
  refine Eq.trans ?_ (row_b m c k)
  blk_ext [iblk, blocks_at t]

theorem pre_eq (c : Dev nD) (t : Fin cfg0.N) (r : Fin 512) (q : Fin 2048) :
    pre (iblk m c 0 t) (iblk m c 1 t) (iblk m c 2 t) (ix2 r q)
      = rpre (m ((c : Thread nD τ).loc main_arg0)) (m ((c : Thread nD τ).loc main_arg1)) (m ((c : Thread nD τ).loc main_arg2)) (ix3 (entry t) (token t r) q) := by
  pointwise [pre, rpre]
  exact congrArg₂ (· + ·) (congrArg _ (read_h m c t r q)) (congrArg₂ (· * ·) (read_gt m c t q) (read_f m c t r q))

/-- What the kernel computes for the block of grid point `t`. -/
abbrev block (c : Dev nD) (t : Fin cfg0.N) : FVec Ideal S512x2048 .f32 :=
  k0_pay2 (iblk m c 0 t) (iblk m c 2 t) (iblk m c 1 t) (iblk m c 3 t) (iblk m c 4 t)

theorem block_eq (c : Dev nD) (t : Fin cfg0.N) (r : Fin 512) (q : Fin 2048) :
    block m c t (ix2 r q) = REF (m ((c : Thread nD τ).loc main_arg0)) (m ((c : Thread nD τ).loc main_arg1)) (m ((c : Thread nD τ).loc main_arg2)) (m ((c : Thread nD τ).loc main_arg3)) (m ((c : Thread nD τ).loc main_arg4)) (ix3 (entry t) (token t r) q) := by
  have e : block m c t = addf (mulf (nrm (pre (iblk m c 0 t) (iblk m c 1 t) (iblk m c 2 t)))
      (broadcastTo S512x2048 (shapeCast S1x2048 (iblk m c 3 t) shapeCasts_S1x2048_S1x2048) broadcasts_S1x2048_S512x2048))
      (broadcastTo S512x2048 (shapeCast S1x2048 (iblk m c 4 t) shapeCasts_S1x2048_S1x2048) broadcasts_S1x2048_S512x2048) := rfl
  have n := nrm_eq _ _ r (entry t) (token t r) (pre_eq m c t r) q
  have g := read_g m c t q
  have b := read_b m c t q
  rw [e]
  generalize nrm (pre (iblk m c 0 t) (iblk m c 1 t) (iblk m c 2 t)) = N at n ⊢
  unfold REF
  generalize rnrm (rpre (m ((c : Thread nD τ).loc main_arg0)) (m ((c : Thread nD τ).loc main_arg1)) (m ((c : Thread nD τ).loc main_arg2))) = N' at n ⊢
  pointwise
  exact congrArg₂ (· + ·) (congrArg₂ (· * ·) n g) b

theorem value (c : Dev nD) (t : Fin cfg0.N) (y : S1x512x2048.Idx) :
    k0_pay1 (block m c t) y
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  idx_vars y
  have e : (((cfg0.win 5).blk t).view.emb (ix3 y0 y1 y2)) = (ix3 (entry t) (token t y1) y2 : S2x4096x2048.Idx) := by
    blk_ext [blocks_at t]
  rw [e]
  refine Eq.trans ?_ (block_eq m c t y1 y2)
  generalize block m c t = N
  pointwise [k0_pay1]

theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  exact value m c t y

end Cert.Kernel7Ideal.Proj

end
-- ==== Proof.StepSizes.lean ====
module

public import proofs.«01_k».proof.Proof.Gen.Kernel8Ideal.Frame
public import proofs.«01_k».proof.Proof.Gen.Reference8Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Proj

open Cert.Kernel8Ideal Cert.Kernel8Ideal.Gen

variable (m : (ℓ : Loc nD τ sig) → Buf (Elt Ideal) ℓ)

/-- The reference's result: the step-size columns of the product of every token with the whole input weight. -/
def REF (x : FVec Ideal Cert.Reference8Ideal.S8192x2048 .bf16) (w : FVec Ideal Cert.Reference8Ideal.S1x2048x20608 .f32) : FVec Ideal Cert.Reference8Ideal.S8192x128 .f32 :=
  shapeCast _ (extractStridedSlice Cert.Reference8Ideal.S2x4096x128 ![0, 0, 12288]
    (Host.dotGeneral Cert.Reference8Ideal.dot_S2x4096x2048_S2048x20608_S2x4096x20608_2_0_01_1_n_n none
      (shapeCast _ (extf .f32 x Cert.Reference8Ideal.Gen.bitsLt_bf16_f32) Cert.Reference8Ideal.Gen.shapeCasts_S8192x2048_S2x4096x2048)
      (shapeCast _ w Cert.Reference8Ideal.Gen.shapeCasts_S1x2048x20608_S2048x20608))
    Cert.Reference8Ideal.Gen.slices_S2x4096x20608_S2x4096x128_0_0_12288) Cert.Reference8Ideal.Gen.shapeCasts_S2x4096x128_S8192x128

theorem REF_apply (x : FVec Ideal Cert.Reference8Ideal.S8192x2048 .bf16) (w : FVec Ideal Cert.Reference8Ideal.S1x2048x20608 .f32) (l : Fin 8192) (j : Fin 128) :
    REF x w (ix2 l j) = ∑ k : Fin 2048, x (ix2 l k) * w (ix3 0 k ⟨12288 + j.val, by omega⟩) := by
  pointwise [REF]

/-- Where the windows lie at grid point `t`. -/
theorem blocks_at : ∀ t : Fin cfg0.N, win0_0.index t = ![t.val, 0] ∧ win0_1.index t = ![0, 0] ∧ win0_2.index t = ![t.val, 0] :=
  (by decide +kernel : ∀ t : Fin grid0.N, _)

/-- There are 8 grid points. -/
theorem point_lt (t : Fin cfg0.N) : t.val < 8 := t.isLt

/-- The token of row `r` of a block. -/
abbrev token (t : Fin cfg0.N) (r : Fin 1024) : Fin 8192 := ⟨t.val * 1024 + r.val, by have := point_lt t; omega⟩

theorem weights (c : Dev nD) (k : Fin 2048) (j : Fin 128) :
    (show FVec Ideal S2048x128 .bf16 from V m c main_v2) (ix2 k j)
      = (show FVec Ideal S1x2048x20608 .f32 from m ((c : Thread nD τ).loc main_arg1)) (ix3 0 k ⟨12288 + j.val, by omega⟩) := by
  entry_read
  pointwise

theorem read_a (c : Dev nD) (t : Fin cfg0.N) (r : Fin 1024) (k : Fin 2048) :
    (show FVec Ideal S1024x2048 .bf16 from iblk m c 0 t) (ix2 r k)
      = (show FVec Ideal S8192x2048 .bf16 from m ((c : Thread nD τ).loc main_arg0)) (ix2 (token t r) k) := by
  blk_ext [iblk, V, blocks_at t]

theorem read_w (c : Dev nD) (t : Fin cfg0.N) (k : Fin 2048) (j : Fin 128) :
    (show FVec Ideal S2048x128 .bf16 from iblk m c 1 t) (ix2 k j)
      = (show FVec Ideal S1x2048x20608 .f32 from m ((c : Thread nD τ).loc main_arg1)) (ix3 0 k ⟨12288 + j.val, by omega⟩) := by
  refine Eq.trans ?_ (weights m c k j)
  blk_ext [iblk, blocks_at t]

theorem value (c : Dev nD) (t : Fin cfg0.N) (y : S1024x128.Idx) :
    k0_pay1 (iblk m c 0 t) (iblk m c 1 t) y = REF (m ((c : Thread nD τ).loc main_arg0)) (m ((c : Thread nD τ).loc main_arg1)) (((cfg0.win 2).blk t).view.emb y) := by
  idx_vars y
  have e : (((cfg0.win 2).blk t).view.emb (ix2 y0 y1)) = (ix2 (token t y0) y1 : S8192x128.Idx) := by
    blk_ext [blocks_at t]
  rw [e]
  refine Eq.trans ?_ (REF_apply _ _ _ _).symm
  pointwise [k0_pay1]
  exact Finset.sum_congr rfl fun k _ => congrArg₂ (· * ·) (read_a m c t y0 k) (read_w m c t k y1)

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  exact value m c t y

end Cert.Kernel8Ideal.Proj

end
-- ==== Proof.Context.lean ====
module

public import proofs.«01_k».proof.Proof.Gen.Kernel9Ideal.Frame
public import proofs.«01_k».proof.Proof.Gen.Reference9Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Proj

open Cert.Kernel9Ideal Cert.Kernel9Ideal.Gen

variable (m : (ℓ : Loc nD τ sig) → Buf (Elt Ideal) ℓ)

/-- The reference's result: the context's x and B columns as slabs of 128 lanes. -/
def REF (x : FVec Ideal Cert.Reference9Ideal.S512x2048 .bf16) (w : FVec Ideal Cert.Reference9Ideal.S1x2048x20608 .f32) : FVec Ideal Cert.Reference9Ideal.S40x512x128 .f32 :=
  transpose Cert.Reference9Ideal.S40x512x128 [1, 0, 2] (shapeCast Cert.Reference9Ideal.S512x40x128
    (Host.dotGeneral Cert.Reference9Ideal.dot_S512x2048_S2048x5120_S512x5120_1_0_0_1_n_n none (extf .f32 x Cert.Reference9Ideal.Gen.bitsLt_bf16_f32)
      (extractStridedSlice Cert.Reference9Ideal.S2048x5120 ![0, 6144] (shapeCast Cert.Reference9Ideal.S2048x20608 w Cert.Reference9Ideal.Gen.shapeCasts_S1x2048x20608_S2048x20608)
        Cert.Reference9Ideal.Gen.slices_S2048x20608_S2048x5120_0_6144))
    Cert.Reference9Ideal.Gen.shapeCasts_S512x5120_S512x40x128) Cert.Reference9Ideal.Gen.transposes_S512x40x128_S40x512x128_1_0_2

/-- The reference at an index. -/
theorem REF_apply (x : FVec Ideal Cert.Reference9Ideal.S512x2048 .bf16) (w : FVec Ideal Cert.Reference9Ideal.S1x2048x20608 .f32)
    (i : S40x512x128.Idx) (j : Nat) (hj : j < 5120) (h : (i 0).val * 128 + (i 2).val = j) :
    REF x w i = ∑ l : Fin 2048, x (ix2 (i 1) l) * w (ix3 0 l ⟨6144 + j, by omega⟩) := by
  subst h
  pointwise [REF]

/-- Where the three windows lie at grid point `t`. -/
theorem blocks_at : ∀ t : Fin cfg0.N, win0_0.index t = ![0, 0] ∧ win0_1.index t = ![0, t.val] ∧ win0_2.index t = ![t.val, 0, 0] :=
  (by decide +kernel : ∀ t : Fin grid0.N, _)

/-- There are 5 grid points. -/
theorem point_lt (t : Fin cfg0.N) : t.val < 5 := t.isLt

/-- The weight's columns that the call reads, where the region finds them. -/
theorem weights (c : Dev nD) (l : Fin 2048) (j : Nat) (hj : j < 5120) :
    (show FVec Ideal S2048x14336 .bf16 from V m c main_v4) (ix2 l ⟨j, by omega⟩)
      = (show FVec Ideal S1x2048x20608 .f32 from m ((c : Thread nD τ).loc main_arg1)) (ix3 0 l ⟨6144 + j, by omega⟩) := by
  entry_read
  pointwise
  split
  · rfl
  · omega

set_option maxHeartbeats 1600000 in
/-- One element of a stored slab: the row of the tokens against the slab's column of the weights. -/
theorem element (c : Dev nD) (t : Fin cfg0.N) (y : S8x512x128.Idx) (r : Fin 512) (k : Fin 1024)
    (hr : (y 1).val = r.val) (hk : (y 0).val * 128 + (y 2).val = k.val) :
    ∑ l : Fin 2048, (show FVec Ideal S512x2048 .bf16 from iblk m c 0 t) (ix2 r l)
        * (show FVec Ideal S2048x1024 .bf16 from iblk m c 1 t) (ix2 l k)
      = REF (m ((c : Thread nD τ).loc main_arg0)) (m ((c : Thread nD τ).loc main_arg1)) (((cfg0.win 2).blk t).view.emb y) := by
  have hj : t.val * 1024 + k.val < 5120 := by have := k.isLt; have := point_lt t; omega
  refine Eq.trans ?_ (REF_apply _ _ _ (t.val * 1024 + k.val) hj (by blk_simp [blocks_at t]; omega)).symm
  refine Finset.sum_congr rfl fun l _ => congrArg₂ _ ?_ (Eq.trans ?_ (weights m c l _ hj))
  · blk_ext [iblk, V, blocks_at t]
  · blk_ext [iblk, blocks_at t]

set_option maxHeartbeats 1600000 in
/-- The eight slabs stored at grid point `t` are the reference's. -/
theorem slabs (c : Dev nD) (t : Fin cfg0.N) (y) :
    out0_2 (iblk m c 0 t) (iblk m c 1 t) y = REF (m ((c : Thread nD τ).loc main_arg0)) (m ((c : Thread nD τ).loc main_arg1)) (((cfg0.win 2).blk t).view.emb y) := by
  canon_tiles x h
  all_goals (open_payloads; pointwise; refine element m c t y _ _ h1 ?_; dsimp only; omega)

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  exact slabs m c t y

end Cert.Kernel9Ideal.Proj

end
-- ==== Proof.Modulation.lean ====
module

public import proofs.«01_k».proof.Proof.Gen.Kernel10Ideal.Frame
public import proofs.«01_k».proof.Proof.Gen.Reference10Ideal
public import proofs.«01_k».proof.Proof.OutProj
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Proj

open Cert.Kernel10Ideal Cert.Kernel10Ideal.Gen

variable (m : (ℓ : Loc nD τ sig) → Buf (Elt Ideal) ℓ)

/-- A row less its mean, over the root of its variance, as the kernel writes it for a block of rows. -/
def nrm (v : FVec Ideal S512x2048 .f32) : FVec Ideal S512x2048 .f32 := Cert.Kernel5Ideal.Proj.nrm v

/-- A row less its mean, over the root of its variance, as the reference writes it for all rows. -/
def rnrm (v : FVec Ideal Cert.Reference10Ideal.S2x4096x2048 .f32) : FVec Ideal Cert.Reference10Ideal.S2x4096x2048 .f32 := Cert.Kernel5Ideal.Proj.rnrm v

theorem nrm_eq (v : FVec Ideal S512x2048 .f32) (w : FVec Ideal Cert.Reference10Ideal.S2x4096x2048 .f32) (r : Fin 512) (b : Fin 2)
    (l : Fin 4096) (h : ∀ k : Fin 2048, v (ix2 r k) = w (ix3 b l k)) (q : Fin 2048) :
    nrm v (ix2 r q) = rnrm w (ix3 b l q) := Cert.Kernel5Ideal.Proj.nrm_eq v w r b l h q

/-- A block of the input as a matrix of rows. -/
def flat (x0 : Vec Ideal S1x512x2048 .f32) : FVec Ideal S512x2048 .f32 := shapeCast S512x2048 x0 shapeCasts_S1x512x2048_S512x2048

theorem flat_apply (x0 : Vec Ideal S1x512x2048 .f32) (r : Fin 512) (k : Fin 2048) :
    flat x0 (ix2 r k) = (show FVec Ideal S1x512x2048 .f32 from x0) (ix3 0 r k) := by
  pointwise [flat]

/-- The modulated input. -/
def REF (x : FVec Ideal Cert.Reference10Ideal.S2x4096x2048 .f32) (sc sh : FVec Ideal Cert.Reference10Ideal.S2x1x2048 .f32) :
    FVec Ideal Cert.Reference10Ideal.S2x4096x2048 .bf16 :=
  truncf .bf16 (addf (mulf (rnrm x) (broadcastInDim Cert.Reference10Ideal.S2x4096x2048 ![0, 1, 2] Cert.Reference10Ideal.Gen.bcast_S2x1x2048_S2x4096x2048_0_1_2
      (addf (broadcastInDim Cert.Reference10Ideal.S2x1x2048 ![] Cert.Reference10Ideal.Gen.bcast_S_S2x1x2048 (constant Cert.Reference10Ideal.S_ .f32 0x3F800000#32)) sc)))
    (broadcastInDim Cert.Reference10Ideal.S2x4096x2048 ![0, 1, 2] Cert.Reference10Ideal.Gen.bcast_S2x1x2048_S2x4096x2048_0_1_2 sh)) Cert.Reference10Ideal.Gen.bitsLt_bf16_f32

/-- Where the windows lie at grid point `t`. -/
theorem blocks_at : ∀ t : Fin cfg0.N, win0_0.index t = ![t.val / 8, t.val % 8, 0] ∧ win0_1.index t = ![t.val / 8, 0, 0]
    ∧ win0_2.index t = ![t.val / 8, 0, 0] ∧ win0_3.index t = ![t.val / 8, t.val % 8, 0] :=
  (by decide +kernel : ∀ t : Fin grid0.N, _)

/-- There are 16 grid points. -/
theorem point_lt (t : Fin cfg0.N) : t.val < 16 := t.isLt

/-- The batch entry of a block. -/
abbrev entry (t : Fin cfg0.N) : Fin 2 := ⟨t.val / 8, by have := point_lt t; omega⟩

/-- The token of row `r` of a block. -/
abbrev token (t : Fin cfg0.N) (r : Fin 512) : Fin 4096 := ⟨t.val % 8 * 512 + r.val, by omega⟩

theorem read_x (c : Dev nD) (t : Fin cfg0.N) (r : Fin 512) (k : Fin 2048) :
    (show FVec Ideal S1x512x2048 .f32 from iblk m c 0 t) (ix3 0 r k)
      = (show FVec Ideal S2x4096x2048 .f32 from m ((c : Thread nD τ).loc main_arg0)) (ix3 (entry t) (token t r) k) := by
  blk_ext [iblk, V, blocks_at t]

theorem read_sc (c : Dev nD) (t : Fin cfg0.N) (k : Fin 2048) :
    (show FVec Ideal S1x1x2048 .f32 from iblk m c 1 t) (ix3 0 0 k)
      = (show FVec Ideal S2x1x2048 .f32 from m ((c : Thread nD τ).loc main_arg1)) (ix3 (entry t) 0 k) := by
  blk_ext [iblk, V, blocks_at t]

theorem read_sh (c : Dev nD) (t : Fin cfg0.N) (k : Fin 2048) :
    (show FVec Ideal S1x1x2048 .f32 from iblk m c 2 t) (ix3 0 0 k)
      = (show FVec Ideal S2x1x2048 .f32 from m ((c : Thread nD τ).loc main_arg2)) (ix3 (entry t) 0 k) := by
  blk_ext [iblk, V, blocks_at t]

theorem value (c : Dev nD) (t : Fin cfg0.N) (y : S1x512x2048.Idx) :
    k0_pay1 (iblk m c 0 t) (iblk m c 1 t) (iblk m c 2 t) y
      = REF (m ((c : Thread nD τ).loc main_arg0)) (m ((c : Thread nD τ).loc main_arg1)) (m ((c : Thread nD τ).loc main_arg2)) (((cfg0.win 3).blk t).view.emb y) := by
  idx_vars y
  have e : (((cfg0.win 3).blk t).view.emb (ix3 y0 y1 y2)) = (ix3 (entry t) (token t y1) y2 : S2x4096x2048.Idx) := by
    blk_ext [blocks_at t]
  rw [e]
  have n := nrm_eq (flat (iblk m c 0 t)) (m ((c : Thread nD τ).loc main_arg0)) y1 (entry t) (token t y1)
    (fun k => (flat_apply _ y1 k).trans (read_x m c t y1 k)) y2
  have f : k0_pay1 (iblk m c 0 t) (iblk m c 1 t) (iblk m c 2 t) = shapeCast S1x512x2048 (truncf .bf16
      (addf (mulf (nrm (flat (iblk m c 0 t)))
      (broadcastTo S512x2048 (addf (broadcast S1x2048 (Scalar.ofBits .f32 0x3F800000#32)) (shapeCast S1x2048 (iblk m c 1 t) shapeCasts_S1x1x2048_S1x2048)) broadcasts_S1x2048_S512x2048))
      (broadcastTo S512x2048 (shapeCast S1x2048 (iblk m c 2 t) shapeCasts_S1x1x2048_S1x2048) broadcasts_S1x2048_S512x2048))
      bitsLt_bf16_f32) shapeCasts_S512x2048_S1x512x2048 := rfl
  have g := read_sc m c t y2
  have b := read_sh m c t y2
  rw [f]
  generalize nrm (flat (iblk m c 0 t)) = N at n ⊢
  unfold REF
  generalize rnrm (m ((c : Thread nD τ).loc main_arg0)) = N' at n ⊢
  pointwise
  exact congrArg₂ (· + ·) (congrArg₂ (· * ·) n (congrArg _ g)) b

theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact value m c t y

end Cert.Kernel10Ideal.Proj

end
-- ==== Proof.Conditions.lean ====
module

public import proofs.«01_k».proof.Proof.Gen.Kernel11Ideal.Frame
public import proofs.«01_k».proof.Proof.Gen.Reference11Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.Proj

open Cert.Kernel11Ideal Cert.Kernel11Ideal.Gen

variable (m : (ℓ : Loc nD τ sig) → Buf (Elt Ideal) ℓ)

/-- The reference's result: the conditions through x times the logistic function of x, projected, and the bias added. -/
def REF (x : FVec Ideal Cert.Reference11Ideal.S8x2048 .f32) (w : FVec Ideal Cert.Reference11Ideal.S1x2048x12288 .f32) (b : FVec Ideal Cert.Reference11Ideal.S1x12288 .f32) :
    FVec Ideal Cert.Reference11Ideal.S8x12288 .f32 :=
  addf (Host.dotGeneral Cert.Reference11Ideal.dot_S8x2048_S2048x12288_S8x12288_1_0_0_1_n_n none
      (mulf x (Host.divf (broadcastInDim Cert.Reference11Ideal.S8x2048 ![] Cert.Reference11Ideal.Gen.bcast_S_S8x2048 (constant Cert.Reference11Ideal.S_ .f32 0x3F800000#32))
        (addf (broadcastInDim Cert.Reference11Ideal.S8x2048 ![] Cert.Reference11Ideal.Gen.bcast_S_S8x2048 (constant Cert.Reference11Ideal.S_ .f32 0x3F800000#32)) (Host.exp (Host.negf x)))))
      (shapeCast Cert.Reference11Ideal.S2048x12288 w Cert.Reference11Ideal.Gen.shapeCasts_S1x2048x12288_S2048x12288))
    (broadcastInDim Cert.Reference11Ideal.S8x12288 ![0, 1] Cert.Reference11Ideal.Gen.bcast_S1x12288_S8x12288_0_1
      (broadcastInDim Cert.Reference11Ideal.S1x12288 ![1] Cert.Reference11Ideal.Gen.bcast_S12288_S1x12288_1 (shapeCast Cert.Reference11Ideal.S12288 b Cert.Reference11Ideal.Gen.shapeCasts_S1x12288_S12288)))

/-- A number times the logistic function of it. -/
abbrev silu (x : EReal) : EReal := x * Ideal.div 1 (1 + Ideal.exp (-x))

theorem REF_apply (x : FVec Ideal Cert.Reference11Ideal.S8x2048 .f32) (w : FVec Ideal Cert.Reference11Ideal.S1x2048x12288 .f32) (b : FVec Ideal Cert.Reference11Ideal.S1x12288 .f32)
    (r : Fin 8) (j : Fin 12288) :
    REF x w b (ix2 r j) = (∑ k : Fin 2048, silu (x (ix2 r k)) * w (ix3 0 k j)) + b (ix2 0 j) := by
  pointwise [REF]

/-- Where the windows lie at grid point `t`. -/
theorem blocks_at : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- There are 12 grid points. -/
theorem point_lt (t : Fin cfg0.N) : t.val < 12 := t.isLt

/-- The column of column `q` of a block. -/
abbrev col (t : Fin cfg0.N) (q : Fin 1024) : Fin 12288 := ⟨t.val * 1024 + q.val, by have := point_lt t; omega⟩

theorem weights (c : Dev nD) (k : Fin 2048) (j : Fin 12288) :
    (show FVec Ideal S2048x12288 .f32 from V m c main_v0) (ix2 k j)
      = (show FVec Ideal S1x2048x12288 .f32 from m ((c : Thread nD τ).loc main_arg1)) (ix3 0 k j) := by
  entry_read
  pointwise

theorem bias (c : Dev nD) (j : Fin 12288) :
    (show FVec Ideal S1x12288 .f32 from V m c main_v2) (ix2 0 j)
      = (show FVec Ideal S1x12288 .f32 from m ((c : Thread nD τ).loc main_arg2)) (ix2 0 j) := by
  entry_read
  pointwise

theorem read_x (c : Dev nD) (t : Fin cfg0.N) (r : Fin 8) (k : Fin 2048) :
    (show FVec Ideal S8x2048 .f32 from iblk m c 0 t) (ix2 r k)
      = (show FVec Ideal S8x2048 .f32 from m ((c : Thread nD τ).loc main_arg0)) (ix2 r k) := by
  blk_ext [iblk, V, blocks_at t]

theorem read_w (c : Dev nD) (t : Fin cfg0.N) (k : Fin 2048) (q : Fin 1024) :
    (show FVec Ideal S2048x1024 .f32 from iblk m c 1 t) (ix2 k q)
      = (show FVec Ideal S1x2048x12288 .f32 from m ((c : Thread nD τ).loc main_arg1)) (ix3 0 k (col t q)) := by
  refine Eq.trans ?_ (weights m c k (col t q))
  blk_ext [iblk, blocks_at t]

theorem read_b (c : Dev nD) (t : Fin cfg0.N) (q : Fin 1024) :
    (show FVec Ideal S1x1024 .f32 from iblk m c 2 t) (ix2 0 q)
      = (show FVec Ideal S1x12288 .f32 from m ((c : Thread nD τ).loc main_arg2)) (ix2 0 (col t q)) := by
  refine Eq.trans ?_ (bias m c (col t q))
  blk_ext [iblk, blocks_at t]

theorem value (c : Dev nD) (t : Fin cfg0.N) (y : S8x1024.Idx) :
    k0_pay1 (iblk m c 0 t) (iblk m c 1 t) (iblk m c 2 t) y = REF (m ((c : Thread nD τ).loc main_arg0)) (m ((c : Thread nD τ).loc main_arg1)) (m ((c : Thread nD τ).loc main_arg2)) (((cfg0.win 3).blk t).view.emb y) := by
  idx_vars y
  have e : (((cfg0.win 3).blk t).view.emb (ix2 y0 y1)) = (ix2 y0 (col t y1) : S8x12288.Idx) := by
    blk_ext [blocks_at t]
  rw [e]
  refine Eq.trans ?_ (REF_apply _ _ _ _ _).symm
  pointwise [k0_pay1]
  refine congrArg₂ (· + ·) (Finset.sum_congr rfl fun k _ => congrArg₂ (· * ·) ?_ (read_w m c t k y1)) (read_b m c t y1)
  exact (congrArg (fun z : EReal => z * Ideal.div 1 (1 + Ideal.exp (0 - z))) (read_x m c t y0 k)).trans
    (congrArg (fun z : EReal => _ * Ideal.div 1 (1 + Ideal.exp z)) (zero_sub _))

theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact value m c t y

end Cert.Kernel11Ideal.Proj

end
-- ==== Proof.GatedNorm.lean ====
module

public import proofs.«01_k».proof.Proof.Gen.Kernel12Ideal.Frame
public import proofs.«01_k».proof.Proof.Gen.Reference12Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel12Ideal.Proj

open Cert.Kernel12Ideal Cert.Kernel12Ideal.Gen

variable (m : (ℓ : Loc nD τ sig) → Buf (Elt Ideal) ℓ)

/-- Rows over the root of their mean square, as the kernel writes it for a block of rows. -/
def nrm (v : FVec Ideal S1024x512 .f32) : FVec Ideal S1024x512 .f32 :=
  mulf v (broadcastTo S1024x512 (rsqrt (addf (divf
    (shapeCast S1024x1 (multiReduction .add [1] S1024 (mulf v v) 0x00000000#32 reduces_S1024x512_S1024 (.inl rfl) rfl) shapeCasts_S1024_S1024x1)
    (broadcast S1024x1 (Scalar.ofBits .f32 0x44000000#32))) (broadcast S1024x1 (Scalar.ofBits .f32 0x3727C5AC#32)))) broadcasts_S1024x1_S1024x512)

/-- Rows over the root of their mean square, as the reference writes it for all groups of channels. -/
def rnrm (v : FVec Ideal Cert.Reference12Ideal.S8192x8x512 .f32) : FVec Ideal Cert.Reference12Ideal.S8192x8x512 .f32 :=
  mulf v (broadcastInDim Cert.Reference12Ideal.S8192x8x512 ![0, 1, 2] Cert.Reference12Ideal.Gen.bcast_S8192x8x1_S8192x8x512_0_1_2
    (Host.rsqrt (addf (Host.divf (broadcastInDim Cert.Reference12Ideal.S8192x8x1 ![0, 1] Cert.Reference12Ideal.Gen.bcast_S8192x8_S8192x8x1_0_1
        (Host.reduceAdd (mulf v v) (constant Cert.Reference12Ideal.S_ .f32 0x00000000#32) Cert.Reference12Ideal.Gen.reducesTo_S8192x8x512_S8192x8_d2 Cert.Reference12Ideal.Gen.h_S_))
      (broadcastInDim Cert.Reference12Ideal.S8192x8x1 ![] Cert.Reference12Ideal.Gen.bcast_S_S8192x8x1 (constant Cert.Reference12Ideal.S_ .f32 0x44000000#32)))
      (broadcastInDim Cert.Reference12Ideal.S8192x8x1 ![] Cert.Reference12Ideal.Gen.bcast_S_S8192x8x1 (constant Cert.Reference12Ideal.S_ .f32 0x3727C5AC#32)))))

/-- The two agree on equal rows. -/
theorem nrm_eq (v : FVec Ideal S1024x512 .f32) (w : FVec Ideal Cert.Reference12Ideal.S8192x8x512 .f32) (r : Fin 1024) (R : Fin 8192)
    (g : Fin 8) (h : ∀ k : Fin 512, v (ix2 r k) = w (ix3 R g k)) (q : Fin 512) :
    nrm v (ix2 r q) = rnrm w (ix3 R g q) := by
  pointwise [nrm, rnrm]
  simp only [h]

/-- A number times the logistic function of it. -/
abbrev silu (x : EReal) : EReal := x * Ideal.div 1 (1 + Ideal.exp (-x))

/-- The gated sum, as the kernel writes it for a block of rows. -/
def gated (x z y : FVec Ideal S1024x512 .f32) (d : Vec Ideal S1x1x512 .f32) : FVec Ideal S1024x512 .f32 :=
  mulf (addf y (mulf x (broadcastTo S1024x512 (shapeCast S1x512 d shapeCasts_S1x1x512_S1x512) broadcasts_S1x512_S1024x512)))
    (mulf z (divf (broadcast S1024x512 (Scalar.ofBits .f32 0x3F800000#32)) (addf (broadcast S1024x512 (Scalar.ofBits .f32 0x3F800000#32))
      (exp (subf (broadcast S1024x512 (Scalar.ofBits .f32 0x00000000#32)) z)))))

theorem gated_apply (x z y : FVec Ideal S1024x512 .f32) (d : Vec Ideal S1x1x512 .f32) (r : Fin 1024) (q : Fin 512) :
    gated x z y d (ix2 r q) = (y (ix2 r q) + x (ix2 r q) * (show FVec Ideal S1x1x512 .f32 from d) (ix3 0 0 q))
      * (z (ix2 r q) * Ideal.div 1 (1 + Ideal.exp (0 - z (ix2 r q)))) := by
  pointwise [gated]

/-- One direction's slabs as a matrix of tokens and channels. -/
def tokens (y : FVec Ideal Cert.Reference12Ideal.S8x8192x512 .bf16) : FVec Ideal Cert.Reference12Ideal.S8192x4096 .f32 :=
  shapeCast Cert.Reference12Ideal.S8192x4096 (transpose Cert.Reference12Ideal.S8192x8x512 [1, 0, 2] (extf .f32 y Cert.Reference12Ideal.Gen.bitsLt_bf16_f32)
    Cert.Reference12Ideal.Gen.transposes_S8x8192x512_S8192x8x512_1_0_2) Cert.Reference12Ideal.Gen.shapeCasts_S8192x8x512_S8192x4096

theorem tokens_apply (y : FVec Ideal Cert.Reference12Ideal.S8x8192x512 .bf16) (R : Fin 8192) (J : Fin 4096) :
    tokens y (ix2 R J) = y (ix3 ⟨J.val / 512, by omega⟩ R ⟨J.val % 512, by omega⟩) := by
  pointwise [tokens]

/-- The skip term: the x channels, each head times the sum of its two skips. -/
def skip (x : FVec Ideal Cert.Reference12Ideal.S48x8192x128 .bf16) (d : FVec Ideal Cert.Reference12Ideal.S1x2x64 .f32) : FVec Ideal Cert.Reference12Ideal.S8192x4096 .f32 :=
  shapeCast Cert.Reference12Ideal.S8192x4096 (mulf (shapeCast Cert.Reference12Ideal.S8192x64x64 (extractStridedSlice Cert.Reference12Ideal.S8192x4096 ![0, 0]
      (shapeCast Cert.Reference12Ideal.S8192x6144 (transpose Cert.Reference12Ideal.S8192x48x128 [1, 0, 2] (extf .f32 x Cert.Reference12Ideal.Gen.bitsLt_bf16_f32)
        Cert.Reference12Ideal.Gen.transposes_S48x8192x128_S8192x48x128_1_0_2) Cert.Reference12Ideal.Gen.shapeCasts_S8192x48x128_S8192x6144)
      Cert.Reference12Ideal.Gen.slices_S8192x6144_S8192x4096_0_0) Cert.Reference12Ideal.Gen.shapeCasts_S8192x4096_S8192x64x64)
    (broadcastInDim Cert.Reference12Ideal.S8192x64x64 ![0, 1, 2] Cert.Reference12Ideal.Gen.bcast_S1x64x1_S8192x64x64_0_1_2
      (broadcastInDim Cert.Reference12Ideal.S1x64x1 ![1, 2] Cert.Reference12Ideal.Gen.bcast_S64x1_S1x64x1_1_2 (broadcastInDim Cert.Reference12Ideal.S64x1 ![0] Cert.Reference12Ideal.Gen.bcast_S64_S64x1_0
        (addf (shapeCast Cert.Reference12Ideal.S64 (extractStridedSlice Cert.Reference12Ideal.S1x1x64 ![0, 0, 0] d Cert.Reference12Ideal.Gen.slices_S1x2x64_S1x1x64_0_0_0) Cert.Reference12Ideal.Gen.shapeCasts_S1x1x64_S64)
          (shapeCast Cert.Reference12Ideal.S64 (extractStridedSlice Cert.Reference12Ideal.S1x1x64 ![0, 1, 0] d Cert.Reference12Ideal.Gen.slices_S1x2x64_S1x1x64_0_1_0) Cert.Reference12Ideal.Gen.shapeCasts_S1x1x64_S64))))))
    Cert.Reference12Ideal.Gen.shapeCasts_S8192x64x64_S8192x4096

theorem skip_apply (x : FVec Ideal Cert.Reference12Ideal.S48x8192x128 .bf16) (d : FVec Ideal Cert.Reference12Ideal.S1x2x64 .f32) (R : Fin 8192) (J : Fin 4096) :
    skip x d (ix2 R J) = x (ix3 ⟨J.val / 128, by omega⟩ R ⟨J.val % 128, by omega⟩)
      * (d (ix3 0 0 ⟨J.val / 64, by omega⟩) + d (ix3 0 1 ⟨J.val / 64, by omega⟩)) := by
  pointwise [skip]

/-- The z columns of the projection. -/
def zcols (p : FVec Ideal Cert.Reference12Ideal.S112x8192x128 .bf16) : FVec Ideal Cert.Reference12Ideal.S8192x4096 .f32 :=
  extractStridedSlice Cert.Reference12Ideal.S8192x4096 ![0, 6144] (shapeCast Cert.Reference12Ideal.S8192x14336 (transpose Cert.Reference12Ideal.S8192x112x128 [1, 0, 2]
    (extf .f32 p Cert.Reference12Ideal.Gen.bitsLt_bf16_f32) Cert.Reference12Ideal.Gen.transposes_S112x8192x128_S8192x112x128_1_0_2)
    Cert.Reference12Ideal.Gen.shapeCasts_S8192x112x128_S8192x14336) Cert.Reference12Ideal.Gen.slices_S8192x14336_S8192x4096_0_6144

theorem zcols_apply (p : FVec Ideal Cert.Reference12Ideal.S112x8192x128 .bf16) (R : Fin 8192) (J : Fin 4096) :
    zcols p (ix2 R J) = p (ix3 ⟨48 + J.val / 128, by omega⟩ R ⟨J.val % 128, by omega⟩) := by
  pointwise [zcols]
  refine congrArg p (congrArg₂ (fun (x : Fin 112) (z : Fin 128) => ix3 x R z) (Fin.ext ?_) (Fin.ext ?_))
  · show (6144 + J.val) / 128 = 48 + J.val / 128
    omega
  · show (6144 + J.val) % 128 = J.val % 128
    omega

/-- The gated sum, as the reference writes it. -/
def rgated (yf yb : FVec Ideal Cert.Reference12Ideal.S8x8192x512 .bf16) (x : FVec Ideal Cert.Reference12Ideal.S48x8192x128 .bf16)
    (p : FVec Ideal Cert.Reference12Ideal.S112x8192x128 .bf16) (d : FVec Ideal Cert.Reference12Ideal.S1x2x64 .f32) : FVec Ideal Cert.Reference12Ideal.S8192x4096 .f32 :=
  mulf (addf (addf (tokens yf) (tokens yb)) (skip x d)) (mulf (zcols p)
    (Host.divf (broadcastInDim Cert.Reference12Ideal.S8192x4096 ![] Cert.Reference12Ideal.Gen.bcast_S_S8192x4096 (constant Cert.Reference12Ideal.S_ .f32 0x3F800000#32))
      (addf (broadcastInDim Cert.Reference12Ideal.S8192x4096 ![] Cert.Reference12Ideal.Gen.bcast_S_S8192x4096 (constant Cert.Reference12Ideal.S_ .f32 0x3F800000#32))
        (Host.exp (Host.negf (zcols p))))))

theorem rgated_apply (yf yb : FVec Ideal Cert.Reference12Ideal.S8x8192x512 .bf16) (x : FVec Ideal Cert.Reference12Ideal.S48x8192x128 .bf16)
    (p : FVec Ideal Cert.Reference12Ideal.S112x8192x128 .bf16) (d : FVec Ideal Cert.Reference12Ideal.S1x2x64 .f32) (R : Fin 8192) (J : Fin 4096) :
    rgated yf yb x p d (ix2 R J)
      = ((tokens yf (ix2 R J) + tokens yb (ix2 R J)) + skip x d (ix2 R J)) * silu (zcols p (ix2 R J)) := by
  unfold rgated
  generalize tokens yf = a
  generalize tokens yb = b
  generalize skip x d = s
  generalize zcols p = z
  pointwise

/-- The reference's result. -/
def REF (yf yb : FVec Ideal Cert.Reference12Ideal.S8x8192x512 .bf16) (x : FVec Ideal Cert.Reference12Ideal.S48x8192x128 .bf16)
    (p : FVec Ideal Cert.Reference12Ideal.S112x8192x128 .bf16) (d : FVec Ideal Cert.Reference12Ideal.S1x2x64 .f32) (w : FVec Ideal Cert.Reference12Ideal.S1x4096 .f32) : FVec Ideal Cert.Reference12Ideal.S8192x4096 .bf16 :=
  truncf .bf16 (mulf (shapeCast Cert.Reference12Ideal.S8192x4096 (rnrm (shapeCast Cert.Reference12Ideal.S8192x8x512 (rgated yf yb x p d) Cert.Reference12Ideal.Gen.shapeCasts_S8192x4096_S8192x8x512))
      Cert.Reference12Ideal.Gen.shapeCasts_S8192x8x512_S8192x4096)
    (broadcastInDim Cert.Reference12Ideal.S8192x4096 ![0, 1] Cert.Reference12Ideal.Gen.bcast_S1x4096_S8192x4096_0_1 (broadcastInDim Cert.Reference12Ideal.S1x4096 ![1] Cert.Reference12Ideal.Gen.bcast_S4096_S1x4096_1
      (shapeCast Cert.Reference12Ideal.S4096 w Cert.Reference12Ideal.Gen.shapeCasts_S1x4096_S4096)))) Cert.Reference12Ideal.Gen.bitsLt_bf16_f32

/-- Channel `q` of a group, among all channels. -/
abbrev chan (g : Fin 8) (q : Fin 512) : Fin 4096 := ⟨g.val * 512 + q.val, by omega⟩

theorem groups_apply (v : FVec Ideal Cert.Reference12Ideal.S8192x4096 .f32) (R : Fin 8192) (g : Fin 8) (q : Fin 512) :
    (shapeCast Cert.Reference12Ideal.S8192x8x512 v Cert.Reference12Ideal.Gen.shapeCasts_S8192x4096_S8192x8x512) (ix3 R g q) = v (ix2 R (chan g q)) := by
  pointwise

theorem flat_apply (v : FVec Ideal Cert.Reference12Ideal.S8192x8x512 .f32) (R : Fin 8192) (g : Fin 8) (q : Fin 512) :
    (shapeCast Cert.Reference12Ideal.S8192x4096 v Cert.Reference12Ideal.Gen.shapeCasts_S8192x8x512_S8192x4096) (ix2 R (chan g q)) = v (ix3 R g q) := by
  pointwise
  refine congrArg v (congrArg₂ (fun (x : Fin 8) (z : Fin 512) => ix3 R x z) (Fin.ext ?_) (Fin.ext ?_))
  · show (g.val * 512 + q.val) / 512 = g.val
    omega
  · show (g.val * 512 + q.val) % 512 = q.val
    omega

theorem REF_apply (yf yb : FVec Ideal Cert.Reference12Ideal.S8x8192x512 .bf16) (x : FVec Ideal Cert.Reference12Ideal.S48x8192x128 .bf16)
    (p : FVec Ideal Cert.Reference12Ideal.S112x8192x128 .bf16) (d : FVec Ideal Cert.Reference12Ideal.S1x2x64 .f32) (w : FVec Ideal Cert.Reference12Ideal.S1x4096 .f32) (R : Fin 8192) (g : Fin 8) (q : Fin 512) :
    REF yf yb x p d w (ix2 R (chan g q))
      = rnrm (shapeCast Cert.Reference12Ideal.S8192x8x512 (rgated yf yb x p d) Cert.Reference12Ideal.Gen.shapeCasts_S8192x4096_S8192x8x512) (ix3 R g q) * w (ix2 0 (chan g q)) := by
  unfold REF
  have e := flat_apply (rnrm (shapeCast Cert.Reference12Ideal.S8192x8x512 (rgated yf yb x p d) Cert.Reference12Ideal.Gen.shapeCasts_S8192x4096_S8192x8x512)) R g q
  generalize rnrm (shapeCast Cert.Reference12Ideal.S8192x8x512 (rgated yf yb x p d) Cert.Reference12Ideal.Gen.shapeCasts_S8192x4096_S8192x8x512) = v at e ⊢
  rw [← e]
  generalize shapeCast Cert.Reference12Ideal.S8192x4096 v Cert.Reference12Ideal.Gen.shapeCasts_S8192x8x512_S8192x4096 = u
  pointwise

/-- Where the windows lie at grid point `t`. -/
theorem blocks_at : ∀ t : Fin cfg0.N, win0_0.index t = ![t.val / 8, t.val % 8, 0] ∧ win0_1.index t = ![t.val / 8, t.val % 8, 0]
    ∧ win0_2.index t = ![t.val / 8, t.val % 8, 0] ∧ win0_3.index t = ![12 + t.val / 8, t.val % 8, 0]
    ∧ win0_4.index t = ![t.val / 8, 0, 0] ∧ win0_5.index t = ![t.val / 8, 0, 0] ∧ win0_6.index t = ![t.val % 8, t.val / 8] :=
  (by decide +kernel : ∀ t : Fin grid0.N, _)

/-- There are 64 grid points. -/
theorem point_lt (t : Fin cfg0.N) : t.val < 64 := t.isLt

/-- The group of channels of a block. -/
abbrev group (t : Fin cfg0.N) : Fin 8 := ⟨t.val / 8, by have := point_lt t; omega⟩

/-- The channel of column `q` of a block. -/
abbrev col (t : Fin cfg0.N) (q : Fin 512) : Fin 4096 := chan (group t) q

/-- The token of row `r` of a block. -/
abbrev token (t : Fin cfg0.N) (r : Fin 1024) : Fin 8192 := ⟨t.val % 8 * 1024 + r.val, by omega⟩

theorem read_yf (c : Dev nD) (t : Fin cfg0.N) (r : Fin 1024) (q : Fin 512) :
    (show FVec Ideal S1x1024x512 .bf16 from iblk m c 0 t) (ix3 0 r q)
      = (show FVec Ideal S8x8192x512 .bf16 from m ((c : Thread nD τ).loc main_arg0))
        (ix3 ⟨(col t q).val / 512, by have := (col t q).isLt; omega⟩ (token t r) ⟨(col t q).val % 512, by omega⟩) := by
  blk_ext [iblk, V, blocks_at t]

theorem read_yb (c : Dev nD) (t : Fin cfg0.N) (r : Fin 1024) (q : Fin 512) :
    (show FVec Ideal S1x1024x512 .bf16 from iblk m c 1 t) (ix3 0 r q)
      = (show FVec Ideal S8x8192x512 .bf16 from m ((c : Thread nD τ).loc main_arg1))
        (ix3 ⟨(col t q).val / 512, by have := (col t q).isLt; omega⟩ (token t r) ⟨(col t q).val % 512, by omega⟩) := by
  blk_ext [iblk, V, blocks_at t]

theorem read_x (c : Dev nD) (t : Fin cfg0.N) (r : Fin 1024) (q : Fin 512) :
    (show FVec Ideal S4x1024x128 .bf16 from iblk m c 2 t) (ix3 ⟨q.val / 128, by omega⟩ r ⟨q.val % 128, by omega⟩)
      = (show FVec Ideal S48x8192x128 .bf16 from m ((c : Thread nD τ).loc main_arg2))
        (ix3 ⟨(col t q).val / 128, by have := (col t q).isLt; omega⟩ (token t r) ⟨(col t q).val % 128, by omega⟩) := by
  blk_ext [iblk, V, blocks_at t]

theorem read_z (c : Dev nD) (t : Fin cfg0.N) (r : Fin 1024) (q : Fin 512) :
    (show FVec Ideal S4x1024x128 .bf16 from iblk m c 3 t) (ix3 ⟨q.val / 128, by omega⟩ r ⟨q.val % 128, by omega⟩)
      = (show FVec Ideal S112x8192x128 .bf16 from m ((c : Thread nD τ).loc main_arg3))
        (ix3 ⟨48 + (col t q).val / 128, by have := (col t q).isLt; omega⟩ (token t r) ⟨(col t q).val % 128, by omega⟩) := by
  blk_ext [iblk, V, blocks_at t]

theorem skips (c : Dev nD) (g : Fin 8) (q : Fin 512) :
    (show FVec Ideal S8x1x512 .f32 from V m c main_v8) (ix3 g 0 q)
      = (show FVec Ideal S1x2x64 .f32 from m ((c : Thread nD τ).loc main_arg4)) (ix3 0 0 ⟨(chan g q).val / 64, by have := (chan g q).isLt; omega⟩)
        + (show FVec Ideal S1x2x64 .f32 from m ((c : Thread nD τ).loc main_arg4)) (ix3 0 1 ⟨(chan g q).val / 64, by have := (chan g q).isLt; omega⟩) := by
  entry_read
  pointwise
  refine congrArg (fun z : Fin 64 => (show FVec Ideal S1x2x64 .f32 from m ((c : Thread nD τ).loc main_arg4)) (ix3 0 0 z)
    + (show FVec Ideal S1x2x64 .f32 from m ((c : Thread nD τ).loc main_arg4)) (ix3 0 1 z)) (Fin.ext ?_)
  show g.val * 8 + q.val / 64 = (g.val * 512 + q.val) / 64
  omega

theorem weights (c : Dev nD) (g : Fin 8) (q : Fin 512) :
    (show FVec Ideal S8x1x512 .f32 from V m c main_v9) (ix3 g 0 q)
      = (show FVec Ideal S1x4096 .f32 from m ((c : Thread nD τ).loc main_arg5)) (ix2 0 (chan g q)) := by
  entry_read
  pointwise

theorem read_d (c : Dev nD) (t : Fin cfg0.N) (q : Fin 512) :
    (show FVec Ideal S1x1x512 .f32 from iblk m c 4 t) (ix3 0 0 q)
      = (show FVec Ideal S1x2x64 .f32 from m ((c : Thread nD τ).loc main_arg4)) (ix3 0 0 ⟨(col t q).val / 64, by have := (col t q).isLt; omega⟩)
        + (show FVec Ideal S1x2x64 .f32 from m ((c : Thread nD τ).loc main_arg4)) (ix3 0 1 ⟨(col t q).val / 64, by have := (col t q).isLt; omega⟩) := by
  refine Eq.trans ?_ (skips m c (group t) q)
  blk_ext [iblk, blocks_at t]

theorem read_w (c : Dev nD) (t : Fin cfg0.N) (q : Fin 512) :
    (show FVec Ideal S1x1x512 .f32 from iblk m c 5 t) (ix3 0 0 q)
      = (show FVec Ideal S1x4096 .f32 from m ((c : Thread nD τ).loc main_arg5)) (ix2 0 (col t q)) := by
  refine Eq.trans ?_ (weights m c (group t) q)
  blk_ext [iblk, blocks_at t]

/-- The four slabs of the x channels, side by side. -/
abbrev xs (G : Vec Ideal S4x1024x128 .bf16) : FVec Ideal S1024x512 .f32 :=
  k0_pay2 (View.ld G r0_0) (View.ld G r0_1) (View.ld G r0_2) (View.ld G r0_3)

theorem xs_apply (G : Vec Ideal S4x1024x128 .bf16) (r : Fin 1024) (q : Fin 512) :
    xs G (ix2 r q) = (show FVec Ideal S4x1024x128 .bf16 from G) (ix3 ⟨q.val / 128, by omega⟩ r ⟨q.val % 128, by omega⟩) := by
  pointwise [xs, k0_pay2]
  blk_point

/-- The four slabs of the z channels, side by side. -/
abbrev zs (G : Vec Ideal S4x1024x128 .bf16) : FVec Ideal S1024x512 .f32 :=
  k0_pay3 (View.ld G r0_0) (View.ld G r0_1) (View.ld G r0_2) (View.ld G r0_3)

theorem zs_apply (G : Vec Ideal S4x1024x128 .bf16) (r : Fin 1024) (q : Fin 512) :
    zs G (ix2 r q) = (show FVec Ideal S4x1024x128 .bf16 from G) (ix3 ⟨q.val / 128, by omega⟩ r ⟨q.val % 128, by omega⟩) := by
  pointwise [zs, k0_pay3]
  blk_point

theorem ys_apply (a b : Vec Ideal S1x1024x512 .bf16) (r : Fin 1024) (q : Fin 512) :
    k0_pay4 a b (ix2 r q) = (show FVec Ideal S1x1024x512 .bf16 from a) (ix3 0 r q) + (show FVec Ideal S1x1024x512 .bf16 from b) (ix3 0 r q) := by
  pointwise [k0_pay4]

/-- The gated sum of a block. -/
abbrev block (c : Dev nD) (t : Fin cfg0.N) : FVec Ideal S1024x512 .f32 :=
  gated (xs (iblk m c 2 t)) (zs (iblk m c 3 t)) (k0_pay4 (iblk m c 0 t) (iblk m c 1 t)) (iblk m c 4 t)

theorem block_eq (c : Dev nD) (t : Fin cfg0.N) (r : Fin 1024) (q : Fin 512) :
    block m c t (ix2 r q) = (shapeCast Cert.Reference12Ideal.S8192x8x512 (rgated (m ((c : Thread nD τ).loc main_arg0)) (m ((c : Thread nD τ).loc main_arg1)) (m ((c : Thread nD τ).loc main_arg2)) (m ((c : Thread nD τ).loc main_arg3)) (m ((c : Thread nD τ).loc main_arg4)))
      Cert.Reference12Ideal.Gen.shapeCasts_S8192x4096_S8192x8x512) (ix3 (token t r) (group t) q) := by
  refine (gated_apply _ _ _ _ r q).trans (Eq.trans ?_ ((groups_apply _ _ _ _).trans (rgated_apply _ _ _ _ _ _ _)).symm)
  have z := ((zs_apply (iblk m c 3 t) r q).trans (read_z m c t r q)).trans (zcols_apply _ (token t r) (col t q)).symm
  refine congrArg₂ (· * ·) (congrArg₂ (· + ·) ?_ ?_) ?_
  · exact (ys_apply _ _ r q).trans (congrArg₂ (· + ·) ((read_yf m c t r q).trans (tokens_apply _ _ _).symm)
      ((read_yb m c t r q).trans (tokens_apply _ _ _).symm))
  · exact (congrArg₂ (· * ·) ((xs_apply _ r q).trans (read_x m c t r q)) (read_d m c t q)).trans (skip_apply _ _ _ _).symm
  · exact (congrArg (fun z : EReal => z * Ideal.div 1 (1 + Ideal.exp (0 - z))) z).trans
      (congrArg (fun z : EReal => _ * Ideal.div 1 (1 + Ideal.exp z)) (zero_sub _))

theorem value (c : Dev nD) (t : Fin cfg0.N) (y : S1024x512.Idx) :
    k0_pay1 (xs (iblk m c 2 t)) (zs (iblk m c 3 t)) (k0_pay4 (iblk m c 0 t) (iblk m c 1 t)) (iblk m c 4 t) (iblk m c 5 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  idx_vars y
  have e : (((cfg0.win 6).blk t).view.emb (ix2 y0 y1)) = (ix2 (token t y0) (chan (group t) y1) : S8192x4096.Idx) := by
    blk_ext [blocks_at t]
  rw [e]
  refine Eq.trans ?_ (REF_apply _ _ _ _ _ _ _ _ _).symm
  have f : k0_pay1 (xs (iblk m c 2 t)) (zs (iblk m c 3 t)) (k0_pay4 (iblk m c 0 t) (iblk m c 1 t)) (iblk m c 4 t) (iblk m c 5 t)
      = truncf .bf16 (mulf (nrm (block m c t)) (broadcastTo S1024x512 (shapeCast S1x512 (iblk m c 5 t) shapeCasts_S1x1x512_S1x512)
        broadcasts_S1x512_S1024x512)) bitsLt_bf16_f32 := rfl
  have n := nrm_eq _ _ y0 (token t y0) (group t) (block_eq m c t y0) y1
  rw [f, ← n]
  generalize nrm (block m c t) = N
  pointwise
  exact congrArg (_ * ·) (read_w m c t y1)

theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out
  exact value m c t y

end Cert.Kernel12Ideal.Proj

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel3.Frame
public import proofs.«01_k».proof.Proof.Gen.Kernel4.Frame
public import proofs.«01_k».proof.Proof.InProj
public import proofs.«01_k».proof.Proof.HyProj
public import proofs.«01_k».proof.Proof.Branches
public import proofs.«01_k».proof.Proof.Gen.Kernel5.Frame
public import proofs.«01_k».proof.Proof.Gen.Kernel6.Frame
public import proofs.«01_k».proof.Proof.OutProj
public import proofs.«01_k».proof.Proof.PeerScores
public import proofs.«01_k».proof.Proof.Gen.Kernel7.Frame
public import proofs.«01_k».proof.Proof.LastNorm
public import proofs.«01_k».proof.Proof.Gen.Kernel8.Frame
public import proofs.«01_k».proof.Proof.StepSizes
public import proofs.«01_k».proof.Proof.Gen.Kernel9.Frame
public import proofs.«01_k».proof.Proof.Context
public import proofs.«01_k».proof.Proof.Gen.Kernel10.Frame
public import proofs.«01_k».proof.Proof.Modulation
public import proofs.«01_k».proof.Proof.Gen.Kernel11.Frame
public import proofs.«01_k».proof.Proof.Conditions
public import proofs.«01_k».proof.Proof.Gen.Kernel12.Frame
public import proofs.«01_k».proof.Proof.GatedNorm
public import Idealize.ShloMosaic.Lib.Claim

@[expose] public section

set_option maxRecDepth 16384

noncomputable section

open Idealize.ShloMosaic Idealize.SL.Sem

namespace Cert.Proof

/-- The references run to the end and leave their arguments as they were. -/
theorem frame_reference2 : Cert.quiescent_Reference2Ideal (hReference2Ideal := Cert.Reference2Ideal.Gen.facts) := by
  intro m g _
  hlo_run
  · exact fun _ => ⟨trivial, trivial⟩
  · exact sem_eq_zero_of_no_sems (by decide) _

theorem frame_reference3 : Cert.quiescent_Reference3Ideal (hReference3Ideal := Cert.Reference3Ideal.Gen.facts) := by
  intro m g _
  hlo_run
  · exact fun _ => ⟨trivial, trivial⟩
  · exact sem_eq_zero_of_no_sems (by decide) _

theorem frame_reference4 : Cert.quiescent_Reference4Ideal (hReference4Ideal := Cert.Reference4Ideal.Gen.facts) := by
  intro m g _
  hlo_run
  · exact fun _ => ⟨trivial, trivial, trivial, trivial, trivial⟩
  · exact sem_eq_zero_of_no_sems (by decide) _

theorem frame_reference5 : Cert.quiescent_Reference5Ideal (hReference5Ideal := Cert.Reference5Ideal.Gen.facts) := by
  intro m g _
  hlo_run
  · exact fun _ => ⟨trivial, trivial, trivial, trivial, trivial, trivial, trivial, trivial⟩
  · exact sem_eq_zero_of_no_sems (by decide) _

theorem frame_reference6 : Cert.quiescent_Reference6Ideal (hReference6Ideal := Cert.Reference6Ideal.Gen.facts) := by
  intro m g _
  hlo_run
  · exact fun _ => ⟨trivial, trivial, trivial⟩
  · exact sem_eq_zero_of_no_sems (by decide) _

theorem frame_reference7 : Cert.quiescent_Reference7Ideal (hReference7Ideal := Cert.Reference7Ideal.Gen.facts) := by
  intro m g _
  hlo_run
  · exact fun _ => ⟨trivial, trivial, trivial, trivial, trivial⟩
  · exact sem_eq_zero_of_no_sems (by decide) _

theorem frame_reference8 : Cert.quiescent_Reference8Ideal (hReference8Ideal := Cert.Reference8Ideal.Gen.facts) := by
  intro m g _
  hlo_run
  · exact fun _ => ⟨trivial, trivial⟩
  · exact sem_eq_zero_of_no_sems (by decide) _

theorem frame_reference9 : Cert.quiescent_Reference9Ideal (hReference9Ideal := Cert.Reference9Ideal.Gen.facts) := by
  intro m g _
  hlo_run
  · exact fun _ => ⟨trivial, trivial⟩
  · exact sem_eq_zero_of_no_sems (by decide) _

theorem frame_reference10 : Cert.quiescent_Reference10Ideal (hReference10Ideal := Cert.Reference10Ideal.Gen.facts) := by
  intro m g _
  hlo_run
  · exact fun _ => ⟨trivial, trivial, trivial⟩
  · exact sem_eq_zero_of_no_sems (by decide) _

theorem frame_reference11 : Cert.quiescent_Reference11Ideal (hReference11Ideal := Cert.Reference11Ideal.Gen.facts) := by
  intro m g _
  hlo_run
  · exact fun _ => ⟨trivial, trivial, trivial⟩
  · exact sem_eq_zero_of_no_sems (by decide) _

theorem frame_reference12 : Cert.quiescent_Reference12Ideal (hReference12Ideal := Cert.Reference12Ideal.Gen.facts) := by
  intro m g _
  hlo_run
  · exact fun _ => ⟨trivial, trivial, trivial, trivial, trivial, trivial⟩
  · exact sem_eq_zero_of_no_sems (by decide) _

/-- The wide part of the input projection is the reference's. -/
theorem input_projection : Cert.algebraic_Kernel2Ideal_Reference2Ideal
    (hKernel2Ideal := Cert.Kernel2Ideal.Gen.facts) (hReference2Ideal := Cert.Reference2Ideal.Gen.facts) := by
  pair_intro
  · run_from Cert.Kernel2Ideal.Gen.run_main m g
  · hlo_run
    exact (Cert.Kernel2Ideal.Proj.final m c).symm

/-- The leading part of the input projection is the reference's. -/
theorem hyena_projection : Cert.algebraic_Kernel3Ideal_Reference3Ideal
    (hKernel3Ideal := Cert.Kernel3Ideal.Gen.facts) (hReference3Ideal := Cert.Reference3Ideal.Gen.facts) := by
  pair_intro
  · run_from Cert.Kernel3Ideal.Gen.run_main m g
  · hlo_run
    exact (Cert.Kernel3Ideal.Proj.final m c).symm

/-- The two branches' projections, gated and added, are the reference's. -/
theorem branches : Cert.algebraic_Kernel4Ideal_Reference4Ideal
    (hKernel4Ideal := Cert.Kernel4Ideal.Gen.facts) (hReference4Ideal := Cert.Reference4Ideal.Gen.facts) := by
  pair_intro
  · run_from Cert.Kernel4Ideal.Gen.run_main m g
  · hlo_run
    exact (Cert.Kernel4Ideal.Proj.final m c).symm

set_option maxHeartbeats 2000000 in
/-- The output projection's three results are the reference's. -/
theorem output_projection : Cert.algebraic_Kernel5Ideal_Reference5Ideal
    (hKernel5Ideal := Cert.Kernel5Ideal.Gen.facts) (hReference5Ideal := Cert.Reference5Ideal.Gen.facts) := by
  pair_intro
  · run_from Cert.Kernel5Ideal.Gen.run_main m g
  · hlo_run
    · exact (Cert.Kernel5Ideal.Proj.final_h m c).symm
    · exact (Cert.Kernel5Ideal.Proj.final_m m c).symm
    · exact (Cert.Kernel5Ideal.Proj.final_mt m c).symm

/-- The scores of the product keys are the reference's. -/
theorem key_scores : Cert.algebraic_Kernel6Ideal_Reference6Ideal
    (hKernel6Ideal := Cert.Kernel6Ideal.Gen.facts) (hReference6Ideal := Cert.Reference6Ideal.Gen.facts) := by
  pair_intro
  · run_from Cert.Kernel6Ideal.Gen.run_main m g
  · hlo_run
    have e := (Cert.Kernel6Ideal.Proj.final m c).symm
    rw [← (hagree c).2.2] at e
    exact e

set_option maxHeartbeats 2000000 in
/-- The layer's result is the reference's. -/
theorem last_norm : Cert.algebraic_Kernel7Ideal_Reference7Ideal
    (hKernel7Ideal := Cert.Kernel7Ideal.Gen.facts) (hReference7Ideal := Cert.Reference7Ideal.Gen.facts) := by
  pair_intro
  · run_from Cert.Kernel7Ideal.Gen.run_main m g
  · hlo_run
    exact (Cert.Kernel7Ideal.Proj.final m c).symm

set_option maxHeartbeats 2000000 in
/-- The step-size columns of the input projection are the reference's. -/
theorem step_sizes : Cert.algebraic_Kernel8Ideal_Reference8Ideal
    (hKernel8Ideal := Cert.Kernel8Ideal.Gen.facts) (hReference8Ideal := Cert.Reference8Ideal.Gen.facts) := by
  pair_intro
  · run_from Cert.Kernel8Ideal.Gen.run_main m g
  · hlo_run
    exact (Cert.Kernel8Ideal.Proj.final m c).symm

set_option maxHeartbeats 2000000 in
/-- The context's projection is the reference's. -/
theorem context_projection : Cert.algebraic_Kernel9Ideal_Reference9Ideal
    (hKernel9Ideal := Cert.Kernel9Ideal.Gen.facts) (hReference9Ideal := Cert.Reference9Ideal.Gen.facts) := by
  pair_intro
  · run_from Cert.Kernel9Ideal.Gen.run_main m g
  · hlo_run
    exact (Cert.Kernel9Ideal.Proj.final m c).symm

set_option maxHeartbeats 2000000 in
/-- The modulated input is the reference's. -/
theorem modulation : Cert.algebraic_Kernel10Ideal_Reference10Ideal
    (hKernel10Ideal := Cert.Kernel10Ideal.Gen.facts) (hReference10Ideal := Cert.Reference10Ideal.Gen.facts) := by
  pair_intro
  · run_from Cert.Kernel10Ideal.Gen.run_main m g
  · hlo_run
    exact (Cert.Kernel10Ideal.Proj.final m c).symm

set_option maxHeartbeats 2000000 in
/-- The modulation vectors are the reference's. -/
theorem conditions : Cert.algebraic_Kernel11Ideal_Reference11Ideal
    (hKernel11Ideal := Cert.Kernel11Ideal.Gen.facts) (hReference11Ideal := Cert.Reference11Ideal.Gen.facts) := by
  pair_intro
  · run_from Cert.Kernel11Ideal.Gen.run_main m g
  · hlo_run
    exact (Cert.Kernel11Ideal.Proj.final m c).symm

set_option maxHeartbeats 2000000 in
/-- The gated norm of the state-space branch is the reference's. -/
theorem gated_norm : Cert.algebraic_Kernel12Ideal_Reference12Ideal
    (hKernel12Ideal := Cert.Kernel12Ideal.Gen.facts) (hReference12Ideal := Cert.Reference12Ideal.Gen.facts) := by
  pair_intro
  · run_from Cert.Kernel12Ideal.Gen.run_main m g
  · hlo_run
    exact (Cert.Kernel12Ideal.Proj.final m c).symm

/-- Everything that is claimed. -/
theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    fun m ρ _ => Cert.Kernel.Gen.frame m ρ, fun m ρ _ => Cert.KernelIdeal.Gen.frame m ρ,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    IdealRules.named_const.statement Cert.KernelIdeal.κ "mask" .f32 0xF149F2CA#32 ⊥ rfl,
    trivial, input_projection, trivial, hyena_projection, trivial, branches, trivial,
    output_projection, trivial, key_scores,
    trivial, last_norm, trivial, step_sizes, trivial, context_projection, trivial, modulation, trivial, conditions, trivial, gated_norm⟩

end Cert.Proof

end
